-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v157)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v157) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x128 : Shape := ⟨2, ![10000, 128]⟩
abbrev S10000x3 : Shape := ⟨2, ![10000, 3]⟩
abbrev S33x16 : Shape := ⟨2, ![33, 16]⟩
abbrev S16x128 : Shape := ⟨2, ![16, 128]⟩
abbrev S256x128 : Shape := ⟨2, ![256, 128]⟩
abbrev S128 : Shape := ⟨1, ![128]⟩
abbrev S2x160000 : Shape := ⟨2, ![2, 160000]⟩
abbrev S160000x2 : Shape := ⟨2, ![160000, 2]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S33x16 : S_.BroadcastsInDim S33x16 (![] : Fin 0 → Fin S33x16.rank)
  reducesTo_S33x16_S_d0_1 : S33x16.ReducesTo [0, 1] S_
  bcast_S_S16x128 : S_.BroadcastsInDim S16x128 (![] : Fin 0 → Fin S16x128.rank)
  reducesTo_S16x128_S_d0_1 : S16x128.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  main_v18

def fn {F : FTy → Type} [FloatOps F] (main_arg0 : FVec F S10000x128 .f32) (main_arg1 : FVec F S10000x3 .f32) (main_arg2 : FVec F S33x16 .f32) (main_arg3 : FVec F S16x128 .f32) (main_arg4 : FVec F S256x128 .f32) (main_arg5 : FVec F S128 .f32) (main_arg6 : IVec S2x160000 32) (main_arg7 : IVec S160000x2 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S33x16 .f32 := Host.absf main_arg2
  let main_cst_0 : FVec F S_ .f32 := constant S_ .f32 0x7F800000#32
  let main_v5 : FVec F S33x16 .f32 := broadcastInDim S33x16 ![] bcast_S_S33x16 main_cst_0
  let main_v6 : IVec S33x16 1 := cmpf .olt main_v4 main_v5
  let main_c_1 : IVec S_ 1 := constantI S_ 1 1#1
  let main_v7 : IVec S_ 1 := (fun x v => Host.reduce IntOp.andi x v reducesTo_S33x16_S_d0_1 h_S_) main_v6 main_c_1
  let main_v8 : IVec S_ 1 := andi main_v3 main_v7
  let main_v9 : FVec F S16x128 .f32 := Host.absf main_arg3
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_v13 main_v16
-- ==== Kernel.lean ====
abbrev S10000x128 : Shape := ⟨2, ![10000, 128]⟩
abbrev S10000x3 : Shape := ⟨2, ![10000, 3]⟩
abbrev S33x16 : Shape := ⟨2, ![33, 16]⟩
abbrev S16x128 : Shape := ⟨2, ![16, 128]⟩
abbrev S256x128 : Shape := ⟨2, ![256, 128]⟩
abbrev S128 : Shape := ⟨1, ![128]⟩
abbrev S2x160000 : Shape := ⟨2, ![2, 160000]⟩
abbrev S160000x2 : Shape := ⟨2, ![160000, 2]⟩
abbrev S1x160000 : Shape := ⟨2, ![1, 160000]⟩
abbrev S160000 : Shape := ⟨1, ![160000]⟩
abbrev S_ : Shape := ⟨0, ![]⟩
abbrev S40x16 : Shape := ⟨2, ![40, 16]⟩
abbrev S40x128 : Shape := ⟨2, ![40, 128]⟩
abbrev S10000 : Shape := ⟨1, ![10000]⟩
abbrev S160000x1 : Shape := ⟨2, ![160000, 1]⟩
abbrev S160000x3 : Shape := ⟨2, ![160000, 3]⟩
abbrev S32 : Shape := ⟨1, ![32]⟩
abbrev S1x32 : Shape := ⟨2, ![1, 32]⟩
abbrev S160000x32 : Shape := ⟨2, ![160000, 32]⟩
abbrev S160000x2x1 : Shape := ⟨3, ![160000, 2, 1]⟩
abbrev S160000x2x3 : Shape := ⟨3, ![160000, 2, 3]⟩
abbrev S160000x1x3 : Shape := ⟨3, ![160000, 1, 3]⟩
abbrev S1x1x32 : Shape := ⟨3, ![1, 1, 32]⟩
abbrev S160000x2x32 : Shape := ⟨3, ![160000, 2, 32]⟩
abbrev S160000x128 : Shape := ⟨2, ![160000, 128]⟩
abbrev S160000x2x128 : Shape := ⟨3, ![160000, 2, 128]⟩
abbrev S10000x1 : Shape := ⟨2, ![10000, 1]⟩
abbrev S128x128 : Shape := ⟨2, ![128, 128]⟩
abbrev S1x128 : Shape := ⟨2, ![1, 128]⟩
abbrev S400x128 : Shape := ⟨2, ![400, 128]⟩
abbrev S400x1 : Shape := ⟨2, ![400, 1]⟩

abbrev nBuf : Space → Nat
  | .hbm => 212
  | .vmem => 16
  | .smem => 0
  | _ => 0

abbrev hbmTy0_0 (i : Nat) : BufTy := match i % 128 with
  | 0 => ⟨S10000x128, .f32⟩
  | 1 => ⟨S10000x3, .f32⟩
  | 2 => ⟨S33x16, .f32⟩
  | 3 => ⟨S16x128, .f32⟩
  | 4 => ⟨S256x128, .f32⟩
  | 5 => ⟨S128, .f32⟩
  | 6 => ⟨S2x160000, .i32⟩
  | 7 => ⟨S160000x2, .i32⟩
  | 8 => ⟨S1x160000, .i32⟩
  | 9 => ⟨S160000, .i32⟩
  | 10 => ⟨S1x160000, .i32⟩
  | 11 => ⟨S160000, .i32⟩
  | 12 => ⟨S_, .i32⟩
  | 13 => ⟨S_, .f32⟩
  | 14 => ⟨S40x16, .f32⟩
  | 15 => ⟨S40x128, .f32⟩
  | 16 => ⟨S_, .f32⟩
  | 17 => ⟨S10000, .f32⟩
  | 18 => ⟨S_, .i32⟩
  | 19 => ⟨S160000, .i32⟩
  | 20 => ⟨S160000, .i1⟩
  | 21 => ⟨S_, .i32⟩
  | 22 => ⟨S160000, .i32⟩
  | 23 => ⟨S160000, .i32⟩
  | 24 => ⟨S160000, .i32⟩
  | 25 => ⟨S160000x1, .i32⟩
  | 26 => ⟨S_, .f32⟩
  | 27 => ⟨S160000, .f32⟩
  | 28 => ⟨S10000, .f32⟩
  | 29 => ⟨S_, .f32⟩
  | 30 => ⟨S10000, .f32⟩
  | 31 => ⟨S_, .i32⟩
  | 32 => ⟨S160000, .i32⟩
  | 33 => ⟨S160000, .i1⟩
  | 34 => ⟨S_, .i32⟩
  | 35 => ⟨S160000, .i32⟩
  | 36 => ⟨S160000, .i32⟩
  | 37 => ⟨S160000, .i32⟩
  | 38 => ⟨S160000x1, .i32⟩
  | 39 => ⟨S_, .f32⟩
  | 40 => ⟨S160000, .f32⟩
  | 41 => ⟨S10000, .f32⟩
  | 42 => ⟨S_, .f32⟩
  | 43 => ⟨S10000, .f32⟩
  | 44 => ⟨S10000, .f32⟩
  | 45 => ⟨S10000, .f32⟩
  | 46 => ⟨S_, .i32⟩
  | 47 => ⟨S160000, .i32⟩
  | 48 => ⟨S160000, .i1⟩
  | 49 => ⟨S_, .i32⟩
  | 50 => ⟨S160000, .i32⟩
  | 51 => ⟨S160000, .i32⟩
  | 52 => ⟨S160000, .i32⟩
  | 53 => ⟨S160000x1, .i32⟩
  | 54 => ⟨S160000x3, .f32⟩
  | 55 => ⟨S_, .i32⟩
  | 56 => ⟨S160000, .i32⟩
  | 57 => ⟨S160000, .i1⟩
  | 58 => ⟨S_, .i32⟩
  | 59 => ⟨S160000, .i32⟩
  | 60 => ⟨S160000, .i32⟩
  | 61 => ⟨S160000, .i32⟩
  | 62 => ⟨S160000x1, .i32⟩
  | 63 => ⟨S160000x3, .f32⟩
  | 64 => ⟨S160000x3, .f32⟩
  | 65 => ⟨S160000x3, .f32⟩
  | 66 => ⟨S_, .f32⟩
  | 67 => ⟨S160000, .f32⟩
  | 68 => ⟨S32, .f32⟩
  | 69 => ⟨S_, .f32⟩
  | 70 => ⟨S32, .f32⟩
  | 71 => ⟨S32, .f32⟩
  | 72 => ⟨S_, .f32⟩
  | 73 => ⟨S32, .f32⟩
  | 74 => ⟨S32, .f32⟩
  | 75 => ⟨S32, .f32⟩
  | 76 => ⟨S160000x1, .f32⟩
  | 77 => ⟨S1x32, .f32⟩
  | 78 => ⟨S160000x32, .f32⟩
  | 79 => ⟨S160000x32, .f32⟩
  | 80 => ⟨S160000x32, .i1⟩
  | 81 => ⟨S160000x32, .i32⟩
  | 82 => ⟨S_, .i32⟩
  | 83 => ⟨S160000, .i32⟩
  | 84 => ⟨S_, .i32⟩
  | 85 => ⟨S160000x2, .i32⟩
  | 86 => ⟨S160000x2, .i1⟩
  | 87 => ⟨S_, .i32⟩
  | 88 => ⟨S160000x2, .i32⟩
  | 89 => ⟨S160000x2, .i32⟩
  | 90 => ⟨S160000x2, .i32⟩
  | 91 => ⟨S160000x2x1, .i32⟩
  | 92 => ⟨S160000x2x3, .f32⟩
  | 93 => ⟨S160000x1x3, .f32⟩
  | 94 => ⟨S160000x2x3, .f32⟩
  | 95 => ⟨S160000x2x3, .f32⟩
  | 96 => ⟨S160000x2x3, .f32⟩
  | 97 => ⟨S_, .f32⟩
  | 98 => ⟨S160000x2, .f32⟩
  | 99 => ⟨S32, .f32⟩
  | 100 => ⟨S_, .f32⟩
  | 101 => ⟨S32, .f32⟩
  | 102 => ⟨S32, .f32⟩
  | 103 => ⟨S_, .f32⟩
  | 104 => ⟨S32, .f32⟩
  | 105 => ⟨S32, .f32⟩
  | 106 => ⟨S32, .f32⟩
  | 107 => ⟨S160000x2x1, .f32⟩
  | 108 => ⟨S1x1x32, .f32⟩
  | 109 => ⟨S160000x2x32, .f32⟩
  | 110 => ⟨S160000x2x32, .f32⟩
  | 111 => ⟨S160000x2x32, .i1⟩
  | 112 => ⟨S160000x2x32, .i32⟩
  | 113 => ⟨S_, .i32⟩
  | 114 => ⟨S160000x2, .i32⟩
  | 115 => ⟨S_, .i32⟩
  | 116 => ⟨S160000, .i32⟩
  | 117 => ⟨S160000, .i1⟩
  | 118 => ⟨S_, .i32⟩
  | 119 => ⟨S160000, .i32⟩
  | 120 => ⟨S160000, .i32⟩
  | 121 => ⟨S160000, .i32⟩
  | 122 => ⟨S160000x1, .i32⟩
  | 123 => ⟨S160000, .f32⟩
  | 124 => ⟨S160000x1, .f32⟩
  | 125 => ⟨S_, .i32⟩
  | 126 => ⟨S160000, .i32⟩
  | 127 => ⟨S160000, .i1⟩
  | _ => ⟨S10000x128, .f32⟩

abbrev hbmTy0_1 (i : Nat) : BufTy := match i % 128 with
  | 0 => ⟨S_, .i32⟩
  | 1 => ⟨S160000, .i32⟩
  | 2 => ⟨S160000, .i32⟩
  | 3 => ⟨S160000, .i32⟩
  | 4 => ⟨S160000x1, .i32⟩
  | 5 => ⟨S160000x128, .f32⟩
  | 6 => ⟨S160000x128, .f32⟩
  | 7 => ⟨S160000x128, .f32⟩
  | 8 => ⟨S_, .i32⟩
  | 9 => ⟨S160000, .i32⟩
  | 10 => ⟨S160000, .i1⟩
  | 11 => ⟨S_, .i32⟩
  | 12 => ⟨S160000, .i32⟩
  | 13 => ⟨S160000, .i32⟩
  | 14 => ⟨S160000, .i32⟩
  | 15 => ⟨S160000x1, .i32⟩
  | 16 => ⟨S160000x128, .f32⟩
  | 17 => ⟨S160000x128, .f32⟩
  | 18 => ⟨S_, .f32⟩
  | 19 => ⟨S160000, .f32⟩
  | 20 => ⟨S160000, .f32⟩
  | 21 => ⟨S160000x1, .f32⟩
  | 22 => ⟨S_, .i32⟩
  | 23 => ⟨S160000x2, .i32⟩
  | 24 => ⟨S160000x2, .i1⟩
  | 25 => ⟨S_, .i32⟩
  | 26 => ⟨S160000x2, .i32⟩
  | 27 => ⟨S160000x2, .i32⟩
  | 28 => ⟨S160000x2, .i32⟩
  | 29 => ⟨S160000x2x1, .i32⟩
  | 30 => ⟨S160000x2x128, .f32⟩
  | 31 => ⟨S_, .i32⟩
  | 32 => ⟨S160000x2, .i32⟩
  | 33 => ⟨S160000x2, .i1⟩
  | 34 => ⟨S_, .i32⟩
  | 35 => ⟨S160000x2, .i32⟩
  | 36 => ⟨S160000x2, .i32⟩
  | 37 => ⟨S160000x2, .i32⟩
  | 38 => ⟨S160000x2x1, .i32⟩
  | 39 => ⟨S160000x2x128, .f32⟩
  | 40 => ⟨S160000x2x128, .f32⟩
  | 41 => ⟨S_, .f32⟩
  | 42 => ⟨S160000x128, .f32⟩
  | 43 => ⟨S160000x128, .f32⟩
  | 44 => ⟨S160000x128, .f32⟩
  | 45 => ⟨S_, .f32⟩
  | 46 => ⟨S10000x128, .f32⟩
  | 47 => ⟨S_, .i32⟩
  | 48 => ⟨S160000, .i32⟩
  | 49 => ⟨S160000, .i1⟩
  | 50 => ⟨S_, .i32⟩
  | 51 => ⟨S160000, .i32⟩
  | 52 => ⟨S160000, .i32⟩
  | 53 => ⟨S160000, .i32⟩
  | 54 => ⟨S160000x1, .i32⟩
  | 55 => ⟨S10000x128, .f32⟩
  | 56 => ⟨S_, .f32⟩
  | 57 => ⟨S10000x128, .f32⟩
  | 58 => ⟨S_, .i32⟩
  | 59 => ⟨S160000, .i32⟩
  | 60 => ⟨S160000, .i1⟩
  | 61 => ⟨S_, .i32⟩
  | 62 => ⟨S160000, .i32⟩
  | 63 => ⟨S160000, .i32⟩
  | 64 => ⟨S160000, .i32⟩
  | 65 => ⟨S160000x1, .i32⟩
  | 66 => ⟨S10000x128, .f32⟩
  | 67 => ⟨S_, .f32⟩
  | 68 => ⟨S10000, .f32⟩
  | 69 => ⟨S_, .i32⟩
  | 70 => ⟨S160000, .i32⟩
  | 71 => ⟨S160000, .i1⟩
  | 72 => ⟨S_, .i32⟩
  | 73 => ⟨S160000, .i32⟩
  | 74 => ⟨S160000, .i32⟩
  | 75 => ⟨S160000, .i32⟩
  | 76 => ⟨S160000x1, .i32⟩
  | 77 => ⟨S10000, .f32⟩
  | 78 => ⟨S10000x1, .f32⟩
  | 79 => ⟨S10000x1, .f32⟩
  | 80 => ⟨S128x128, .f32⟩
  | 81 => ⟨S128x128, .f32⟩
  | 82 => ⟨S1x128, .f32⟩
  | 83 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S40x16, .f32⟩
  | .local _ .vmem, ⟨1, _⟩ => ⟨S16x128, .f32⟩
  | .local _ .vmem, ⟨2, _⟩ => ⟨S40x128, .f32⟩
  | .local _ .vmem, ⟨3, _⟩ => ⟨S400x128, .f32⟩
  | .local _ .vmem, ⟨4, _⟩ => ⟨S400x128, .f32⟩
  | .local _ .vmem, ⟨5, _⟩ => ⟨S400x128, .f32⟩
  | .local _ .vmem, ⟨6, _⟩ => ⟨S400x128, .f32⟩
  | .local _ .vmem, ⟨7, _⟩ => ⟨S400x1, .f32⟩
  | .local _ .vmem, ⟨8, _⟩ => ⟨S400x1, .f32⟩
  | .local _ .vmem, ⟨9, _⟩ => ⟨S400x1, .f32⟩
  | .local _ .vmem, ⟨10, _⟩ => ⟨S400x1, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S400x128, .f32⟩
  | .local _ .vmem, ⟨15, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_8 : Ref sig .tc := ⟨.hbm, 46, rfl⟩
abbrev main_v27 : Ref sig .tc := ⟨.hbm, 47, rfl⟩
abbrev main_v28 : Ref sig .tc := ⟨.hbm, 48, rfl⟩
abbrev main_c_9 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_10 : Ref sig .tc := ⟨.hbm, 55, rfl⟩
abbrev main_v34 : Ref sig .tc := ⟨.hbm, 56, rfl⟩
abbrev main_v35 : Ref sig .tc := ⟨.hbm, 57, rfl⟩
abbrev main_c_11 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_12 : Ref sig .tc := ⟨.hbm, 66, rfl⟩
abbrev main_v43 : Ref sig .tc := ⟨.hbm, 67, rfl⟩
abbrev main_v44 : Ref sig .tc := ⟨.hbm, 68, rfl⟩
abbrev main_cst_13 : Ref sig .tc := ⟨.hbm, 69, rfl⟩
abbrev main_v45 : Ref sig .tc := ⟨.hbm, 70, rfl⟩
abbrev main_v46 : Ref sig .tc := ⟨.hbm, 71, rfl⟩
abbrev main_cst_14 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_15 : Ref sig .tc := ⟨.hbm, 82, rfl⟩
abbrev main_v56 : Ref sig .tc := ⟨.hbm, 83, rfl⟩
abbrev main_c_16 : Ref sig .tc := ⟨.hbm, 84, rfl⟩
abbrev main_v57 : Ref sig .tc := ⟨.hbm, 85, rfl⟩
abbrev main_v58 : Ref sig .tc := ⟨.hbm, 86, rfl⟩
abbrev main_c_17 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_18 : Ref sig .tc := ⟨.hbm, 97, rfl⟩
abbrev main_v68 : Ref sig .tc := ⟨.hbm, 98, rfl⟩
abbrev main_v69 : Ref sig .tc := ⟨.hbm, 99, rfl⟩
abbrev main_cst_19 : Ref sig .tc := ⟨.hbm, 100, rfl⟩
abbrev main_v70 : Ref sig .tc := ⟨.hbm, 101, rfl⟩
abbrev main_v71 : Ref sig .tc := ⟨.hbm, 102, rfl⟩
abbrev main_cst_20 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_21 : Ref sig .tc := ⟨.hbm, 113, rfl⟩
abbrev main_v81 : Ref sig .tc := ⟨.hbm, 114, rfl⟩
abbrev main_c_22 : Ref sig .tc := ⟨.hbm, 115, rfl⟩
abbrev main_v82 : Ref sig .tc := ⟨.hbm, 116, rfl⟩
abbrev main_v83 : Ref sig .tc := ⟨.hbm, 117, rfl⟩
abbrev main_c_23 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c_24 : Ref sig .tc := ⟨.hbm, 125, rfl⟩
abbrev main_v90 : Ref sig .tc := ⟨.hbm, 126, rfl⟩
abbrev main_v91 : Ref sig .tc := ⟨.hbm, 127, rfl⟩
abbrev main_c_25 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_c_26 : Ref sig .tc := ⟨.hbm, 136, rfl⟩
abbrev main_v99 : Ref sig .tc := ⟨.hbm, 137, rfl⟩
abbrev main_v100 : Ref sig .tc := ⟨.hbm, 138, rfl⟩
abbrev main_c_27 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_28 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_c_29 : Ref sig .tc := ⟨.hbm, 150, rfl⟩
abbrev main_v110 : Ref sig .tc := ⟨.hbm, 151, rfl⟩
abbrev main_v111 : Ref sig .tc := ⟨.hbm, 152, rfl⟩
abbrev main_c_30 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_c_31 : Ref sig .tc := ⟨.hbm, 159, rfl⟩
abbrev main_v117 : Ref sig .tc := ⟨.hbm, 160, rfl⟩
abbrev main_v118 : Ref sig .tc := ⟨.hbm, 161, rfl⟩
abbrev main_c_32 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_33 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_34 : Ref sig .tc := ⟨.hbm, 173, rfl⟩
abbrev main_v128 : Ref sig .tc := ⟨.hbm, 174, rfl⟩
abbrev main_c_35 : Ref sig .tc := ⟨.hbm, 175, rfl⟩
abbrev main_v129 : Ref sig .tc := ⟨.hbm, 176, rfl⟩
abbrev main_v130 : Ref sig .tc := ⟨.hbm, 177, rfl⟩
abbrev main_c_36 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_cst_37 : Ref sig .tc := ⟨.hbm, 184, rfl⟩
abbrev main_v136 : Ref sig .tc := ⟨.hbm, 185, rfl⟩
abbrev main_c_38 : Ref sig .tc := ⟨.hbm, 186, rfl⟩
abbrev main_v137 : Ref sig .tc := ⟨.hbm, 187, rfl⟩
abbrev main_v138 : Ref sig .tc := ⟨.hbm, 188, rfl⟩
abbrev main_c_39 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_cst_40 : Ref sig .tc := ⟨.hbm, 195, rfl⟩
abbrev main_v144 : Ref sig .tc := ⟨.hbm, 196, rfl⟩
abbrev main_c_41 : Ref sig .tc := ⟨.hbm, 197, rfl⟩
abbrev main_v145 : Ref sig .tc := ⟨.hbm, 198, rfl⟩
abbrev main_v146 : Ref sig .tc := ⟨.hbm, 199, rfl⟩
abbrev main_c_42 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := .none

abbrev stage0_0 : Fin 1 → Memref sig .tc .vmem S40x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S400x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S10000x128 : Shape := ⟨2, ![10000, 128]⟩
abbrev S10000x3 : Shape := ⟨2, ![10000, 3]⟩
abbrev S33x16 : Shape := ⟨2, ![33, 16]⟩
abbrev S16x128 : Shape := ⟨2, ![16, 128]⟩
abbrev S256x128 : Shape := ⟨2, ![256, 128]⟩
abbrev S128 : Shape := ⟨1, ![128]⟩
abbrev S2x160000 : Shape := ⟨2, ![2, 160000]⟩
abbrev S160000x2 : Shape := ⟨2, ![160000, 2]⟩
abbrev S1x160000 : Shape := ⟨2, ![1, 160000]⟩
abbrev S160000 : Shape := ⟨1, ![160000]⟩
abbrev S32 : Shape := ⟨1, ![32]⟩
abbrev S_ : Shape := ⟨0, ![]⟩
abbrev S10000 : Shape := ⟨1, ![10000]⟩
abbrev S160000x1 : Shape := ⟨2, ![160000, 1]⟩
abbrev S160000x3 : Shape := ⟨2, ![160000, 3]⟩
abbrev S160000x2x1 : Shape := ⟨3, ![160000, 2, 1]⟩
abbrev S160000x2x3 : Shape := ⟨3, ![160000, 2, 3]⟩
abbrev S160000x1x3 : Shape := ⟨3, ![160000, 1, 3]⟩
abbrev S1x32 : Shape := ⟨2, ![1, 32]⟩
abbrev S160000x32 : Shape := ⟨2, ![160000, 32]⟩
abbrev S1 : Shape := ⟨1, ![1]⟩
abbrev S1x1 : Shape := ⟨2, ![1, 1]⟩
abbrev S160000x16 : Shape := ⟨2, ![160000, 16]⟩
abbrev S160000x128 : Shape := ⟨2, ![160000, 128]⟩
abbrev S320000 : Shape := ⟨1, ![320000]⟩
abbrev S320000x1 : Shape := ⟨2, ![320000, 1]⟩
abbrev S320000x32 : Shape := ⟨2, ![320000, 32]⟩
abbrev S320000x16 : Shape := ⟨2, ![320000, 16]⟩
abbrev S320000x128 : Shape := ⟨2, ![320000, 128]⟩
abbrev S160000x2x128 : Shape := ⟨3, ![160000, 2, 128]⟩
abbrev S160000x256 : Shape := ⟨2, ![160000, 256]⟩
abbrev S1x128 : Shape := ⟨2, ![1, 128]⟩

abbrev nBuf : Space → Nat
  | .hbm => 237
  | .vmem => 0
  | .smem => 0
  | _ => 0

abbrev hbmTy0_0 (i : Nat) : BufTy := match i % 128 with
  | 0 => ⟨S10000x128, .f32⟩
  | 1 => ⟨S10000x3, .f32⟩
  | 2 => ⟨S33x16, .f32⟩
  | 3 => ⟨S16x128, .f32⟩
  | 4 => ⟨S256x128, .f32⟩
  | 5 => ⟨S128, .f32⟩
  | 6 => ⟨S2x160000, .i32⟩
  | 7 => ⟨S160000x2, .i32⟩
  | 8 => ⟨S1x160000, .i32⟩
  | 9 => ⟨S160000, .i32⟩
  | 10 => ⟨S1x160000, .i32⟩
  | 11 => ⟨S160000, .i32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S10000, .f32⟩
  | 21 => ⟨S_, .i32⟩
  | 22 => ⟨S160000, .i32⟩
  | 23 => ⟨S160000, .i1⟩
  | 24 => ⟨S_, .i32⟩
  | 25 => ⟨S160000, .i32⟩
  | 26 => ⟨S160000, .i32⟩
  | 27 => ⟨S160000, .i32⟩
  | 28 => ⟨S160000x1, .i32⟩
  | 29 => ⟨S_, .f32⟩
  | 30 => ⟨S160000, .f32⟩
  | 31 => ⟨S10000, .f32⟩
  | 32 => ⟨S_, .f32⟩
  | 33 => ⟨S10000, .f32⟩
  | 34 => ⟨S_, .i32⟩
  | 35 => ⟨S160000, .i32⟩
  | 36 => ⟨S160000, .i1⟩
  | 37 => ⟨S_, .i32⟩
  | 38 => ⟨S160000, .i32⟩
  | 39 => ⟨S160000, .i32⟩
  | 40 => ⟨S160000, .i32⟩
  | 41 => ⟨S160000x1, .i32⟩
  | 42 => ⟨S_, .f32⟩
  | 43 => ⟨S160000, .f32⟩
  | 44 => ⟨S10000, .f32⟩
  | 45 => ⟨S_, .f32⟩
  | 46 => ⟨S_, .f32⟩
  | 47 => ⟨S10000, .f32⟩
  | 48 => ⟨S10000, .f32⟩
  | 49 => ⟨S_, .f32⟩
  | 50 => ⟨S10000, .f32⟩
  | 51 => ⟨S10000, .f32⟩
  | 52 => ⟨S_, .f32⟩
  | 53 => ⟨S_, .f32⟩
  | 54 => ⟨S10000, .f32⟩
  | 55 => ⟨S10000, .f32⟩
  | 56 => ⟨S_, .f32⟩
  | 57 => ⟨S10000, .f32⟩
  | 58 => ⟨S10000, .f32⟩
  | 59 => ⟨S_, .i32⟩
  | 60 => ⟨S160000, .i32⟩
  | 61 => ⟨S160000, .i1⟩
  | 62 => ⟨S_, .i32⟩
  | 63 => ⟨S160000, .i32⟩
  | 64 => ⟨S160000, .i32⟩
  | 65 => ⟨S160000, .i32⟩
  | 66 => ⟨S160000x1, .i32⟩
  | 67 => ⟨S160000x3, .f32⟩
  | 68 => ⟨S_, .i32⟩
  | 69 => ⟨S160000, .i32⟩
  | 70 => ⟨S160000, .i1⟩
  | 71 => ⟨S_, .i32⟩
  | 72 => ⟨S160000, .i32⟩
  | 73 => ⟨S160000, .i32⟩
  | 74 => ⟨S160000, .i32⟩
  | 75 => ⟨S160000x1, .i32⟩
  | 76 => ⟨S160000x3, .f32⟩
  | 77 => ⟨S160000x3, .f32⟩
  | 78 => ⟨S160000x3, .f32⟩
  | 79 => ⟨S_, .f32⟩
  | 80 => ⟨S160000, .f32⟩
  | 81 => ⟨S160000, .f32⟩
  | 82 => ⟨S_, .i32⟩
  | 83 => ⟨S160000x2, .i32⟩
  | 84 => ⟨S160000x2, .i1⟩
  | 85 => ⟨S_, .i32⟩
  | 86 => ⟨S160000x2, .i32⟩
  | 87 => ⟨S160000x2, .i32⟩
  | 88 => ⟨S160000x2, .i32⟩
  | 89 => ⟨S160000x2x1, .i32⟩
  | 90 => ⟨S160000x2x3, .f32⟩
  | 91 => ⟨S_, .i32⟩
  | 92 => ⟨S160000, .i32⟩
  | 93 => ⟨S160000, .i1⟩
  | 94 => ⟨S_, .i32⟩
  | 95 => ⟨S160000, .i32⟩
  | 96 => ⟨S160000, .i32⟩
  | 97 => ⟨S160000, .i32⟩
  | 98 => ⟨S160000x1, .i32⟩
  | 99 => ⟨S160000x3, .f32⟩
  | 100 => ⟨S160000x1x3, .f32⟩
  | 101 => ⟨S160000x2x3, .f32⟩
  | 102 => ⟨S160000x2x3, .f32⟩
  | 103 => ⟨S160000x2x3, .f32⟩
  | 104 => ⟨S_, .f32⟩
  | 105 => ⟨S160000x2, .f32⟩
  | 106 => ⟨S160000x2, .f32⟩
  | 107 => ⟨S160000x1, .f32⟩
  | 108 => ⟨S1x32, .f32⟩
  | 109 => ⟨S160000x32, .f32⟩
  | 110 => ⟨S160000x32, .f32⟩
  | 111 => ⟨S160000x32, .i1⟩
  | 112 => ⟨S160000x32, .i32⟩
  | 113 => ⟨S_, .i32⟩
  | 114 => ⟨S160000, .i32⟩
  | 115 => ⟨S_, .i32⟩
  | 116 => ⟨S160000, .i32⟩
  | 117 => ⟨S160000, .i1⟩
  | 118 => ⟨S_, .i32⟩
  | 119 => ⟨S160000, .i32⟩
  | 120 => ⟨S160000, .i32⟩
  | 121 => ⟨S160000, .i32⟩
  | 122 => ⟨S160000x1, .i32⟩
  | 123 => ⟨S1, .i32⟩
  | 124 => ⟨S_, .i32⟩
  | 125 => ⟨S160000x1, .i32⟩
  | 126 => ⟨S160000x1, .i1⟩
  | 127 => ⟨S1x1, .i32⟩
  | _ => ⟨S10000x128, .f32⟩

abbrev hbmTy0_1 (i : Nat) : BufTy := match i % 128 with
  | 0 => ⟨S160000x1, .i32⟩
  | 1 => ⟨S160000x1, .i1⟩
  | 2 => ⟨S160000x1, .i1⟩
  | 3 => ⟨S_, .i1⟩
  | 4 => ⟨S160000, .i1⟩
  | 5 => ⟨S160000x16, .f32⟩
  | 6 => ⟨S160000x16, .i1⟩
  | 7 => ⟨S_, .f32⟩
  | 8 => ⟨S160000x16, .f32⟩
  | 9 => ⟨S160000x16, .f32⟩
  | 10 => ⟨S160000x128, .f32⟩
  | 11 => ⟨S320000, .f32⟩
  | 12 => ⟨S320000x1, .f32⟩
  | 13 => ⟨S1x32, .f32⟩
  | 14 => ⟨S320000x32, .f32⟩
  | 15 => ⟨S320000x32, .f32⟩
  | 16 => ⟨S320000x32, .i1⟩
  | 17 => ⟨S320000x32, .i32⟩
  | 18 => ⟨S_, .i32⟩
  | 19 => ⟨S320000, .i32⟩
  | 20 => ⟨S_, .i32⟩
  | 21 => ⟨S320000, .i32⟩
  | 22 => ⟨S320000, .i1⟩
  | 23 => ⟨S_, .i32⟩
  | 24 => ⟨S320000, .i32⟩
  | 25 => ⟨S320000, .i32⟩
  | 26 => ⟨S320000, .i32⟩
  | 27 => ⟨S320000x1, .i32⟩
  | 28 => ⟨S1, .i32⟩
  | 29 => ⟨S_, .i32⟩
  | 30 => ⟨S320000x1, .i32⟩
  | 31 => ⟨S320000x1, .i1⟩
  | 32 => ⟨S1x1, .i32⟩
  | 33 => ⟨S320000x1, .i32⟩
  | 34 => ⟨S320000x1, .i1⟩
  | 35 => ⟨S320000x1, .i1⟩
  | 36 => ⟨S_, .i1⟩
  | 37 => ⟨S320000, .i1⟩
  | 38 => ⟨S320000x16, .f32⟩
  | 39 => ⟨S320000x16, .i1⟩
  | 40 => ⟨S_, .f32⟩
  | 41 => ⟨S320000x16, .f32⟩
  | 42 => ⟨S320000x16, .f32⟩
  | 43 => ⟨S320000x128, .f32⟩
  | 44 => ⟨S160000x2x128, .f32⟩
  | 45 => ⟨S_, .i32⟩
  | 46 => ⟨S160000x2, .i32⟩
  | 47 => ⟨S160000x2, .i1⟩
  | 48 => ⟨S_, .i32⟩
  | 49 => ⟨S160000x2, .i32⟩
  | 50 => ⟨S160000x2, .i32⟩
  | 51 => ⟨S160000x2, .i32⟩
  | 52 => ⟨S160000x2x1, .i32⟩
  | 53 => ⟨S160000x2x128, .f32⟩
  | 54 => ⟨S160000x2x128, .f32⟩
  | 55 => ⟨S_, .f32⟩
  | 56 => ⟨S160000x128, .f32⟩
  | 57 => ⟨S_, .f32⟩
  | 58 => ⟨S160000x128, .f32⟩
  | 59 => ⟨S160000x128, .f32⟩
  | 60 => ⟨S_, .i32⟩
  | 61 => ⟨S160000, .i32⟩
  | 62 => ⟨S160000, .i1⟩
  | 63 => ⟨S_, .i32⟩
  | 64 => ⟨S160000, .i32⟩
  | 65 => ⟨S160000, .i32⟩
  | 66 => ⟨S160000, .i32⟩
  | 67 => ⟨S160000x1, .i32⟩
  | 68 => ⟨S160000x128, .f32⟩
  | 69 => ⟨S160000x128, .f32⟩
  | 70 => ⟨S160000x256, .f32⟩
  | 71 => ⟨S_, .i32⟩
  | 72 => ⟨S160000, .i32⟩
  | 73 => ⟨S160000, .i1⟩
  | 74 => ⟨S_, .i32⟩
  | 75 => ⟨S160000, .i32⟩
  | 76 => ⟨S160000, .i32⟩
  | 77 => ⟨S160000, .i32⟩
  | 78 => ⟨S160000x1, .i32⟩
  | 79 => ⟨S160000, .f32⟩
  | 80 => ⟨S160000x1, .f32⟩
  | 81 => ⟨S_, .i32⟩
  | 82 => ⟨S160000, .i32⟩
  | 83 => ⟨S160000, .i1⟩
  | 84 => ⟨S_, .i32⟩
  | 85 => ⟨S160000, .i32⟩
  | 86 => ⟨S160000, .i32⟩
  | 87 => ⟨S160000, .i32⟩
  | 88 => ⟨S160000x1, .i32⟩
  | 89 => ⟨S160000, .f32⟩
  | 90 => ⟨S160000x1, .f32⟩
  | 91 => ⟨S160000x1, .f32⟩
  | 92 => ⟨S160000x128, .f32⟩
  | 93 => ⟨S1x128, .f32⟩
  | 94 => ⟨S160000x128, .f32⟩
  | 95 => ⟨S160000x128, .f32⟩
  | 96 => ⟨S160000x128, .f32⟩
  | 97 => ⟨S160000x128, .f32⟩
  | 98 => ⟨S_, .f32⟩
  | 99 => ⟨S10000x128, .f32⟩
  | 100 => ⟨S_, .i32⟩
  | 101 => ⟨S160000, .i32⟩
  | 102 => ⟨S160000, .i1⟩
  | 103 => ⟨S_, .i32⟩
  | 104 => ⟨S160000, .i32⟩
  | 105 => ⟨S160000, .i32⟩
  | 106 => ⟨S160000, .i32⟩
  | 107 => ⟨S160000x1, .i32⟩
  | 108 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_c_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_call0_v0 : Ref sig .tc := ⟨.hbm, 46, rfl⟩
abbrev main_call0_v1 : Ref sig .tc := ⟨.hbm, 47, rfl⟩
abbrev main_v27 : Ref sig .tc := ⟨.hbm, 48, rfl⟩
abbrev main_cst_9 : Ref sig .tc := ⟨.hbm, 49, rfl⟩
abbrev main_v28 : Ref sig .tc := ⟨.hbm, 50, rfl⟩
abbrev main_v29 : Ref sig .tc := ⟨.hbm, 51, rfl⟩
abbrev main_cst_10 : Ref sig .tc := ⟨.hbm, 52, rfl⟩
abbrev main_call1_v0 : Ref sig .tc := ⟨.hbm, 53, rfl⟩
abbrev main_call1_v1 : Ref sig .tc := ⟨.hbm, 54, rfl⟩
abbrev main_v30 : Ref sig .tc := ⟨.hbm, 55, rfl⟩
abbrev main_cst_11 : Ref sig .tc := ⟨.hbm, 56, rfl⟩
abbrev main_v31 : Ref sig .tc := ⟨.hbm, 57, rfl⟩
abbrev main_v32 : Ref sig .tc := ⟨.hbm, 58, rfl⟩
abbrev main_c_12 : Ref sig .tc := ⟨.hbm, 59, rfl⟩
abbrev main_v33 : Ref sig .tc := ⟨.hbm, 60, rfl⟩
abbrev main_v34 : Ref sig .tc := ⟨.hbm, 61, rfl⟩
abbrev main_c_13 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_14 : Ref sig .tc := ⟨.hbm, 68, rfl⟩
abbrev main_v40 : Ref sig .tc := ⟨.hbm, 69, rfl⟩
abbrev main_v41 : Ref sig .tc := ⟨.hbm, 70, rfl⟩
abbrev main_c_15 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_call2_v0 : Ref sig .tc := ⟨.hbm, 78, rfl⟩
abbrev main_call2_cst : Ref sig .tc := ⟨.hbm, 79, rfl⟩
abbrev main_call2_v1 : Ref sig .tc := ⟨.hbm, 80, rfl⟩
abbrev main_v48 : Ref sig .tc := ⟨.hbm, 81, rfl⟩
abbrev main_c_16 : Ref sig .tc := ⟨.hbm, 82, rfl⟩
abbrev main_v49 : Ref sig .tc := ⟨.hbm, 83, rfl⟩
abbrev main_v50 : Ref sig .tc := ⟨.hbm, 84, rfl⟩
abbrev main_c_17 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_c_18 : Ref sig .tc := ⟨.hbm, 91, rfl⟩
abbrev main_v56 : Ref sig .tc := ⟨.hbm, 92, rfl⟩
abbrev main_v57 : Ref sig .tc := ⟨.hbm, 93, rfl⟩
abbrev main_c_19 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_call3_v0 : Ref sig .tc := ⟨.hbm, 103, rfl⟩
abbrev main_call3_cst : Ref sig .tc := ⟨.hbm, 104, rfl⟩
abbrev main_call3_v1 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_c_20 : Ref sig .tc := ⟨.hbm, 113, rfl⟩
abbrev main_v73 : Ref sig .tc := ⟨.hbm, 114, rfl⟩
abbrev main_call4_c : Ref sig .tc := ⟨.hbm, 115, rfl⟩
abbrev main_call4_v0 : Ref sig .tc := ⟨.hbm, 116, rfl⟩
abbrev main_call4_v1 : Ref sig .tc := ⟨.hbm, 117, rfl⟩
abbrev main_call4_c_0 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_call4_v5 : Ref sig .tc := ⟨.hbm, 122, rfl⟩
abbrev main_call4_c_1 : Ref sig .tc := ⟨.hbm, 123, rfl⟩
abbrev main_call4_c_2 : Ref sig .tc := ⟨.hbm, 124, rfl⟩
abbrev main_call4_v6 : Ref sig .tc := ⟨.hbm, 125, rfl⟩
abbrev main_call4_v7 : Ref sig .tc := ⟨.hbm, 126, rfl⟩
abbrev main_call4_v8 : Ref sig .tc := ⟨.hbm, 127, rfl⟩
abbrev main_call4_v9 : Ref sig .tc := ⟨.hbm, 128, rfl⟩
abbrev main_call4_v10 : Ref sig .tc := ⟨.hbm, 129, rfl⟩
abbrev main_call4_v11 : Ref sig .tc := ⟨.hbm, 130, rfl⟩
abbrev main_call4_c_3 : Ref sig .tc := ⟨.hbm, 131, rfl⟩
abbrev main_call4_v12 : Ref sig .tc := ⟨.hbm, 132, rfl⟩
abbrev main_call4_v13 : Ref sig .tc := ⟨.hbm, 133, rfl⟩
abbrev main_call4_v14 : Ref sig .tc := ⟨.hbm, 134, rfl⟩
abbrev main_call4_cst : Ref sig .tc := ⟨.hbm, 135, rfl⟩
abbrev main_call4_v15 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_c_21 : Ref sig .tc := ⟨.hbm, 146, rfl⟩
abbrev main_v83 : Ref sig .tc := ⟨.hbm, 147, rfl⟩
abbrev main_call5_c : Ref sig .tc := ⟨.hbm, 148, rfl⟩
abbrev main_call5_v0 : Ref sig .tc := ⟨.hbm, 149, rfl⟩
abbrev main_call5_v1 : Ref sig .tc := ⟨.hbm, 150, rfl⟩
abbrev main_call5_c_0 : Ref sig .tc := ⟨.hbm, 151, rfl⟩
abbrev main_call5_v2 : Ref sig .tc := ⟨.hbm, 152, rfl⟩
abbrev main_call5_v3 : Ref sig .tc := ⟨.hbm, 153, rfl⟩
abbrev main_call5_v4 : Ref sig .tc := ⟨.hbm, 154, rfl⟩
abbrev main_call5_v5 : Ref sig .tc := ⟨.hbm, 155, rfl⟩
abbrev main_call5_c_1 : Ref sig .tc := ⟨.hbm, 156, rfl⟩
abbrev main_call5_c_2 : Ref sig .tc := ⟨.hbm, 157, rfl⟩
abbrev main_call5_v6 : Ref sig .tc := ⟨.hbm, 158, rfl⟩
abbrev main_call5_v7 : Ref sig .tc := ⟨.hbm, 159, rfl⟩
abbrev main_call5_v8 : Ref sig .tc := ⟨.hbm, 160, rfl⟩
abbrev main_call5_v9 : Ref sig .tc := ⟨.hbm, 161, rfl⟩
abbrev main_call5_v10 : Ref sig .tc := ⟨.hbm, 162, rfl⟩
abbrev main_call5_v11 : Ref sig .tc := ⟨.hbm, 163, rfl⟩
abbrev main_call5_c_3 : Ref sig .tc := ⟨.hbm, 164, rfl⟩
abbrev main_call5_v12 : Ref sig .tc := ⟨.hbm, 165, rfl⟩
abbrev main_call5_v13 : Ref sig .tc := ⟨.hbm, 166, rfl⟩
abbrev main_call5_v14 : Ref sig .tc := ⟨.hbm, 167, rfl⟩
abbrev main_call5_cst : Ref sig .tc := ⟨.hbm, 168, rfl⟩
abbrev main_call5_v15 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_c_22 : Ref sig .tc := ⟨.hbm, 173, rfl⟩
abbrev main_v87 : Ref sig .tc := ⟨.hbm, 174, rfl⟩
abbrev main_v88 : Ref sig .tc := ⟨.hbm, 175, rfl⟩
abbrev main_c_23 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_cst_24 : Ref sig .tc := ⟨.hbm, 183, rfl⟩
abbrev main_v95 : Ref sig .tc := ⟨.hbm, 184, rfl⟩
abbrev main_cst_25 : Ref sig .tc := ⟨.hbm, 185, rfl⟩
abbrev main_v96 : Ref sig .tc := ⟨.hbm, 186, rfl⟩
abbrev main_v97 : Ref sig .tc := ⟨.hbm, 187, rfl⟩
abbrev main_c_26 : Ref sig .tc := ⟨.hbm, 188, rfl⟩
abbrev main_v98 : Ref sig .tc := ⟨.hbm, 189, rfl⟩
abbrev main_v99 : Ref sig .tc := ⟨.hbm, 190, rfl⟩
abbrev main_c_27 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_c_28 : Ref sig .tc := ⟨.hbm, 199, rfl⟩
abbrev main_v107 : Ref sig .tc := ⟨.hbm, 200, rfl⟩
abbrev main_v108 : Ref sig .tc := ⟨.hbm, 201, rfl⟩
abbrev main_c_29 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_c_30 : Ref sig .tc := ⟨.hbm, 209, rfl⟩
abbrev main_v115 : Ref sig .tc := ⟨.hbm, 210, rfl⟩
abbrev main_v116 : Ref sig .tc := ⟨.hbm, 211, rfl⟩
abbrev main_c_31 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_v129 : Ref sig .tc := ⟨.hbm, 225, rfl⟩
abbrev main_cst_32 : Ref sig .tc := ⟨.hbm, 226, rfl⟩
abbrev main_v130 : Ref sig .tc := ⟨.hbm, 227, rfl⟩
abbrev main_c_33 : Ref sig .tc := ⟨.hbm, 228, rfl⟩
abbrev main_v131 : Ref sig .tc := ⟨.hbm, 229, rfl⟩
abbrev main_v132 : Ref sig .tc := ⟨.hbm, 230, rfl⟩
abbrev main_c_34 : Ref sig .tc := ⟨.hbm, 231, rfl⟩
abbrev main_v133 : Ref sig .tc := ⟨.hbm, 232, rfl⟩
abbrev main_v134 : Ref sig .tc := ⟨.hbm, 233, rfl⟩
abbrev main_v135 : Ref sig .tc := ⟨.hbm, 234, rfl⟩
abbrev main_v136 : Ref sig .tc := ⟨.hbm, 235, rfl⟩
abbrev main_v137 : Ref sig .tc := ⟨.hbm, 236, rfl⟩

abbrev nD : Nat := 1
abbrev τ : Topo := Topo.v7x

variable {F : FTy → Type} [FloatOps F]
-- ==== Proof.KernelRun.lean ====
/- The kernel as one run, for any float values: it terminates with its arguments unchanged and with its result array at what
   the second pipelined call leaves there (`Cert.KernelIdeal.Gen.W5`). The launch is set up as the frame's is; the post names
   one array more. -/
module

public import proofs.«01_k».proof.Proof.Gen.KernelIdeal.Frame

@[expose] public section

set_option maxRecDepth 16384

noncomputable section

namespace Cert.Proof.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the kernel terminates, and every final state holds each unscoped buffer of each
    TensorCore at the contents the fold through @main gives it at its end. -/
theorem run_all : θ_run defs (onTc (τ := τ) (main (F := F))) ⟨m, fun _ => 0, ρ⟩ (fun r =>
    ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

/-- So it ends with its result array at the second call's and its arguments as launched. -/
theorem run : θ_run defs (onTc (τ := τ) (main (F := F))) ⟨m, fun _ => 0, ρ⟩ (fun r => ∀ c : Dev nD,
      r.2.mem ((c.tc : Thread nD τ).loc main_v157) = W5 m ρ c (Proc.devRef .tc main_v157)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨h c _ (mem_uc main_v157 (by decide)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c)⟩) (run_all m ρ)

end Cert.Proof.KernelRun

end
-- ==== Proof.Table.lean ====
/- What the kernel's first call leaves: the table of embedded distances, the padded embedding table times the weights
   `G_w`. The call runs at one point, whose block of every window is the window's whole array. -/
module

public import proofs.«01_k».proof.Proof.Gen.KernelIdeal.Frame
public import Idealize.ShloMosaic.Lib.Pointwise
public import Idealize.ShloMosaic.Lib.Pipeline.Value

@[expose] public section

set_option maxRecDepth 16384

noncomputable section

namespace Cert.Proof.Table

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- The product of a 40×16 table and a 16×128 matrix. -/
def product (x : Vec Ideal S40x16 .f32) (g : Vec Ideal S16x128 .f32) : Vec Ideal S40x128 .f32 :=
  fun i => ∑ q : Fin 16, x (ix2 (i 0) q) * g (ix2 q (i 1))

/-- A pair of zeros is the zero function. -/
theorem zero_pair : (![0, 0] : Fin 2 → Nat) = fun _ => 0 := funext fun a => by fin_cases a <;> rfl

/-- The body's one stored value is the product of what it loads. -/
theorem pay_eq (x : Vec Ideal S40x16 .f32) (g : Vec Ideal S16x128 .f32) : k0_pay1 x g = product x g := by
  funext i
  idx_vars i
  pointwise [k0_pay1, product]

/-- Each window's block index at the one point is zero on both axes. -/
theorem index0 : ∀ t : Fin cfg0.N, win0_0.index t (0 : Fin 2) = 0 ∧ win0_0.index t (1 : Fin 2) = 0 :=
  (by decide +kernel : ∀ t : Fin grid0.N, _)
/-- Where window 1 stands at the one point of the call. -/
theorem index1 : ∀ t : Fin cfg0.N, win0_1.index t (0 : Fin 2) = 0 ∧ win0_1.index t (1 : Fin 2) = 0 :=
  (by decide +kernel : ∀ t : Fin grid0.N, _)
/-- Where window 2 stands at the one point of the call. -/
theorem index2 : ∀ t : Fin cfg0.N, win0_2.index t (0 : Fin 2) = 0 ∧ win0_2.index t (1 : Fin 2) = 0 :=
  (by decide +kernel : ∀ t : Fin grid0.N, _)

/-- So a place in a window's block is the same place in its array. -/
theorem place0 (t : Fin cfg0.N) (j : S40x16.Idx) : ((cfg0.win 0).blk t).view.emb j = j := by
  obtain ⟨h0, h1⟩ := index0 t
  funext a; apply Fin.ext
  match a with
  | ⟨0, _⟩ => show win0_0.index t (0 : Fin 2) * 40 + 1 * (j 0).val = (j 0).val; omega
  | ⟨1, _⟩ => show win0_0.index t (1 : Fin 2) * 16 + 1 * (j 1).val = (j 1).val; omega

/-- An index of window 1's block is the same index of the whole array. -/
theorem place1 (t : Fin cfg0.N) (j : S16x128.Idx) : ((cfg0.win 1).blk t).view.emb j = j := by
  obtain ⟨h0, h1⟩ := index1 t
  funext a; apply Fin.ext
  match a with
  | ⟨0, _⟩ => show win0_1.index t (0 : Fin 2) * 16 + 1 * (j 0).val = (j 0).val; omega
  | ⟨1, _⟩ => show win0_1.index t (1 : Fin 2) * 128 + 1 * (j 1).val = (j 1).val; omega

/-- An index of window 2's block is the same index of the whole array. -/
theorem place2 (t : Fin cfg0.N) (j : S40x128.Idx) : ((cfg0.win 2).blk t).view.emb j = j := by
  obtain ⟨h0, h1⟩ := index2 t
  funext a; apply Fin.ext
  match a with
  | ⟨0, _⟩ => show win0_2.index t (0 : Fin 2) * 40 + 1 * (j 0).val = (j 0).val; omega
  | ⟨1, _⟩ => show win0_2.index t (1 : Fin 2) * 128 + 1 * (j 1).val = (j 1).val; omega

/-- The two input blocks are the two arrays. -/
theorem block0 (c : Dev nD) (t : Fin cfg0.N) : iblk0 V c 0 t = V c main_v4 := by
  funext j; show V c main_v4 (((cfg0.win 0).blk t).view.emb j) = V c main_v4 j; rw [place0]

/-- Window 1's block is its whole array. -/
theorem block1 (c : Dev nD) (t : Fin cfg0.N) : iblk0 V c 1 t = V c main_arg3 := by
  funext j; show V c main_arg3 (((cfg0.win 1).blk t).view.emb j) = V c main_arg3 j; rw [place1]

/-- What the point writes back is its block of the product of the two arrays. -/
theorem flushed (c : Dev nD) (t : Fin cfg0.N) :
    (dat0 V c).flushed 2 t = ((cfg0.win 2).blk t).view.read (Elt Ideal) (product (V c main_v4) (V c main_arg3)) := by
  show (cfg0.win 2).cut (grid0.coords t) ((dat0 V c).after 2 t) = _
  rw [after0_2]
  unfold out0_2
  rw [View.canon_unit_zero zero_pair, View.ld_unit_zero zero_pair, View.ld_unit_zero zero_pair, pay_eq, block0, block1]
  funext j
  show product (V c main_v4) (V c main_arg3) j = product (V c main_v4) (V c main_arg3) (((cfg0.win 2).blk t).view.emb j)
  rw [place2]

/-- The one block is the whole table. -/
theorem covered (i : S40x128.Idx) : ∃ t : Fin cfg0.N, (cfg0.win 2).flush t = true ∧ i ∈ ((cfg0.win 2).blk t).view.set :=
  ⟨(⟨0, by decide⟩ : Fin cfg0.N), flush0_2 _, by
    have h := ((cfg0.win 2).blk (⟨0, by decide⟩ : Fin cfg0.N)).view.emb_mem_set i; rwa [place2] at h⟩

/-- After the call the table is the product of the padded embedding table and `G_w`. -/
theorem final (c : Dev nD) : (dat0 V c).arrAt 2 cfg0.N = product (V c main_v4) (V c main_arg3) :=
  (dat0 V c).arrAt_eq_of_cover 2 _ (fun t _ => flushed V c t) covered

end Cert.Proof.Table

end
-- ==== Proof.Combine.lean ====
/- What the kernel's second call leaves: at node `n` and feature `j` the node's normalization times the two products and the
   scaled bias. The call's 25 points handle 400 nodes each. -/
module

public import proofs.«01_k».proof.Proof.Table

@[expose] public section

set_option maxRecDepth 16384

noncomputable section

namespace Cert.Proof.Combine

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- Node `n`'s row from the two sums of messages `s1`, `s2`, the sum of coefficients `w`, the count of incoming edges `d`, the
    two halves of the weights and the bias. -/
def combine (s1 s2 : Vec Ideal S10000x128 .f32) (w d : Vec Ideal S10000x1 .f32) (w1 w2 : Vec Ideal S128x128 .f32)
    (b : Vec Ideal S1x128 .f32) : Vec Ideal S10000x128 .f32 :=
  fun i => Ideal.rsqrt (max (d (ix2 (i 0) 0)) 1)
    * (∑ k : Fin 128, s1 (ix2 (i 0) k) * w1 (ix2 k (i 1)) + ∑ k : Fin 128, s2 (ix2 (i 0) k) * w2 (ix2 k (i 1))
      + w (ix2 (i 0) 0) * b (ix2 0 (i 1)))

/-- The body's one stored value, at a row and a lane of its block. -/
theorem pay_apply (d : Vec Ideal S400x1 .f32) (s1 : Vec Ideal S400x128 .f32) (w1 : Vec Ideal S128x128 .f32)
    (s2 : Vec Ideal S400x128 .f32) (w2 : Vec Ideal S128x128 .f32) (w : Vec Ideal S400x1 .f32) (b : Vec Ideal S1x128 .f32)
    (r : Fin 400) (j : Fin 128) :
    k1_pay1 d s1 w1 s2 w2 w b (ix2 r j) = Ideal.rsqrt (max (d (ix2 r 0)) 1)
      * (∑ k : Fin 128, s1 (ix2 r k) * w1 (ix2 k j) + ∑ k : Fin 128, s2 (ix2 r k) * w2 (ix2 k j)
        + w (ix2 r 0) * b (ix2 0 j)) := by
  pointwise [k1_pay1]

/-- The row of the array at row `r` of point `t`'s block. -/
def row (t : Fin cfg1.N) (r : Fin 400) : Fin 10000 :=
  ⟨t.val * 400 + r.val, by have h : t.val < 25 := t.isLt; have := r.isLt; omega⟩

/-- The block indices at point `t`: the windows over nodes are at block `t`, the others at block 0. -/
theorem index0 : ∀ t : Fin cfg1.N, win1_0.index t (0 : Fin 2) = t.val ∧ win1_0.index t (1 : Fin 2) = 0 :=
  (by decide +kernel : ∀ t : Fin grid1.N, _)
/-- Where window 1 stands at a point of the call. -/
theorem index1 : ∀ t : Fin cfg1.N, win1_1.index t (0 : Fin 2) = t.val ∧ win1_1.index t (1 : Fin 2) = 0 :=
  (by decide +kernel : ∀ t : Fin grid1.N, _)
/-- Where window 2 stands at a point of the call. -/
theorem index2 : ∀ t : Fin cfg1.N, win1_2.index t (0 : Fin 2) = t.val ∧ win1_2.index t (1 : Fin 2) = 0 :=
  (by decide +kernel : ∀ t : Fin grid1.N, _)
/-- Where window 3 stands at a point of the call. -/
theorem index3 : ∀ t : Fin cfg1.N, win1_3.index t (0 : Fin 2) = t.val ∧ win1_3.index t (1 : Fin 2) = 0 :=
  (by decide +kernel : ∀ t : Fin grid1.N, _)
/-- Where window 4 stands at a point of the call. -/
theorem index4 : ∀ t : Fin cfg1.N, win1_4.index t (0 : Fin 2) = 0 ∧ win1_4.index t (1 : Fin 2) = 0 :=
  (by decide +kernel : ∀ t : Fin grid1.N, _)
/-- Where window 5 stands at a point of the call. -/
theorem index5 : ∀ t : Fin cfg1.N, win1_5.index t (0 : Fin 2) = 0 ∧ win1_5.index t (1 : Fin 2) = 0 :=
  (by decide +kernel : ∀ t : Fin grid1.N, _)
/-- Where window 6 stands at a point of the call. -/
theorem index6 : ∀ t : Fin cfg1.N, win1_6.index t (0 : Fin 2) = 0 ∧ win1_6.index t (1 : Fin 2) = 0 :=
  (by decide +kernel : ∀ t : Fin grid1.N, _)
/-- Where window 7 stands at a point of the call. -/
theorem index7 : ∀ t : Fin cfg1.N, win1_7.index t (0 : Fin 2) = t.val ∧ win1_7.index t (1 : Fin 2) = 0 :=
  (by decide +kernel : ∀ t : Fin grid1.N, _)

/-- So a place in a block over nodes is the same lane of row `row t r`, and a place in another block is itself. -/
theorem place0 (t : Fin cfg1.N) (r : Fin 400) (j : Fin 128) :
    ((cfg1.win 0).blk t).view.emb (ix2 r j : S400x128.Idx) = (ix2 (row t r) j : S10000x128.Idx) := by
  obtain ⟨h0, h1⟩ := index0 t
  funext a; apply Fin.ext
  match a with
  | ⟨0, _⟩ => show win1_0.index t (0 : Fin 2) * 400 + 1 * r.val = t.val * 400 + r.val; omega
  | ⟨1, _⟩ => show win1_0.index t (1 : Fin 2) * 128 + 1 * j.val = j.val; omega

/-- An index of window 1's block, as an index of the whole array. -/
theorem place1 (t : Fin cfg1.N) (r : Fin 400) (j : Fin 128) :
    ((cfg1.win 1).blk t).view.emb (ix2 r j : S400x128.Idx) = (ix2 (row t r) j : S10000x128.Idx) := by
  obtain ⟨h0, h1⟩ := index1 t
  funext a; apply Fin.ext
  match a with
  | ⟨0, _⟩ => show win1_1.index t (0 : Fin 2) * 400 + 1 * r.val = t.val * 400 + r.val; omega
  | ⟨1, _⟩ => show win1_1.index t (1 : Fin 2) * 128 + 1 * j.val = j.val; omega

/-- An index of window 2's block, as an index of the whole array. -/
theorem place2 (t : Fin cfg1.N) (r : Fin 400) (j : Fin 1) :
    ((cfg1.win 2).blk t).view.emb (ix2 r j : S400x1.Idx) = (ix2 (row t r) j : S10000x1.Idx) := by
  obtain ⟨h0, h1⟩ := index2 t
  funext a; apply Fin.ext
  match a with
  | ⟨0, _⟩ => show win1_2.index t (0 : Fin 2) * 400 + 1 * r.val = t.val * 400 + r.val; omega
  | ⟨1, _⟩ => show win1_2.index t (1 : Fin 2) * 1 + 1 * j.val = j.val; omega

/-- An index of window 3's block, as an index of the whole array. -/
theorem place3 (t : Fin cfg1.N) (r : Fin 400) (j : Fin 1) :
    ((cfg1.win 3).blk t).view.emb (ix2 r j : S400x1.Idx) = (ix2 (row t r) j : S10000x1.Idx) := by
  obtain ⟨h0, h1⟩ := index3 t
  funext a; apply Fin.ext
  match a with
  | ⟨0, _⟩ => show win1_3.index t (0 : Fin 2) * 400 + 1 * r.val = t.val * 400 + r.val; omega
  | ⟨1, _⟩ => show win1_3.index t (1 : Fin 2) * 1 + 1 * j.val = j.val; omega

/-- An index of window 4's block, as an index of the whole array. -/
theorem place4 (t : Fin cfg1.N) (j : S128x128.Idx) : ((cfg1.win 4).blk t).view.emb j = j := by
  obtain ⟨h0, h1⟩ := index4 t
  funext a; apply Fin.ext
  match a with
  | ⟨0, _⟩ => show win1_4.index t (0 : Fin 2) * 128 + 1 * (j 0).val = (j 0).val; omega
  | ⟨1, _⟩ => show win1_4.index t (1 : Fin 2) * 128 + 1 * (j 1).val = (j 1).val; omega

/-- An index of window 5's block, as an index of the whole array. -/
theorem place5 (t : Fin cfg1.N) (j : S128x128.Idx) : ((cfg1.win 5).blk t).view.emb j = j := by
  obtain ⟨h0, h1⟩ := index5 t
  funext a; apply Fin.ext
  match a with
  | ⟨0, _⟩ => show win1_5.index t (0 : Fin 2) * 128 + 1 * (j 0).val = (j 0).val; omega
  | ⟨1, _⟩ => show win1_5.index t (1 : Fin 2) * 128 + 1 * (j 1).val = (j 1).val; omega

/-- An index of window 6's block, as an index of the whole array. -/
theorem place6 (t : Fin cfg1.N) (j : S1x128.Idx) : ((cfg1.win 6).blk t).view.emb j = j := by
  obtain ⟨h0, h1⟩ := index6 t
  funext a; apply Fin.ext
  match a with
  | ⟨0, _⟩ => show win1_6.index t (0 : Fin 2) * 1 + 1 * (j 0).val = (j 0).val; omega
  | ⟨1, _⟩ => show win1_6.index t (1 : Fin 2) * 128 + 1 * (j 1).val = (j 1).val; omega

/-- An index of window 7's block, as an index of the whole array. -/
theorem place7 (t : Fin cfg1.N) (r : Fin 400) (j : Fin 128) :
    ((cfg1.win 7).blk t).view.emb (ix2 r j : S400x128.Idx) = (ix2 (row t r) j : S10000x128.Idx) := by
  obtain ⟨h0, h1⟩ := index7 t
  funext a; apply Fin.ext
  match a with
  | ⟨0, _⟩ => show win1_7.index t (0 : Fin 2) * 400 + 1 * r.val = t.val * 400 + r.val; omega
  | ⟨1, _⟩ => show win1_7.index t (1 : Fin 2) * 128 + 1 * j.val = j.val; omega

/-- The input blocks read at a place. -/
theorem block0 (c : Dev nD) (t : Fin cfg1.N) (r : Fin 400) (j : Fin 128) :
    iblk1 V c 0 t (ix2 r j : S400x128.Idx) = V c main_v135 (ix2 (row t r) j : S10000x128.Idx) := by
  show V c main_v135 (((cfg1.win 0).blk t).view.emb (ix2 r j : S400x128.Idx)) = _; rw [place0]

/-- What window 1's block holds of its array. -/
theorem block1 (c : Dev nD) (t : Fin cfg1.N) (r : Fin 400) (j : Fin 128) :
    iblk1 V c 1 t (ix2 r j : S400x128.Idx) = V c main_v143 (ix2 (row t r) j : S10000x128.Idx) := by
  show V c main_v143 (((cfg1.win 1).blk t).view.emb (ix2 r j : S400x128.Idx)) = _; rw [place1]

/-- What window 2's block holds of its array. -/
theorem block2 (c : Dev nD) (t : Fin cfg1.N) (r : Fin 400) (j : Fin 1) :
    iblk1 V c 2 t (ix2 r j : S400x1.Idx) = V c main_v152 (ix2 (row t r) j : S10000x1.Idx) := by
  show V c main_v152 (((cfg1.win 2).blk t).view.emb (ix2 r j : S400x1.Idx)) = _; rw [place2]

/-- What window 3's block holds of its array. -/
theorem block3 (c : Dev nD) (t : Fin cfg1.N) (r : Fin 400) (j : Fin 1) :
    iblk1 V c 3 t (ix2 r j : S400x1.Idx) = V c main_v153 (ix2 (row t r) j : S10000x1.Idx) := by
  show V c main_v153 (((cfg1.win 3).blk t).view.emb (ix2 r j : S400x1.Idx)) = _; rw [place3]

/-- What window 4's block holds of its array. -/
theorem block4 (c : Dev nD) (t : Fin cfg1.N) : iblk1 V c 4 t = V c main_v154 := by
  funext j; show V c main_v154 (((cfg1.win 4).blk t).view.emb j) = V c main_v154 j; rw [place4]

/-- What window 5's block holds of its array. -/
theorem block5 (c : Dev nD) (t : Fin cfg1.N) : iblk1 V c 5 t = V c main_v155 := by
  funext j; show V c main_v155 (((cfg1.win 5).blk t).view.emb j) = V c main_v155 j; rw [place5]

/-- What window 6's block holds of its array. -/
theorem block6 (c : Dev nD) (t : Fin cfg1.N) : iblk1 V c 6 t = V c main_v156 := by
  funext j; show V c main_v156 (((cfg1.win 6).blk t).view.emb j) = V c main_v156 j; rw [place6]

/-- The whole result array, from the arrays as the call finds them. -/
def result (c : Dev nD) : Vec Ideal S10000x128 .f32 :=
  combine (V c main_v135) (V c main_v143) (V c main_v152) (V c main_v153) (V c main_v154) (V c main_v155) (V c main_v156)

/-- What point `t` writes back is its block of that array. -/
theorem flushed (c : Dev nD) (t : Fin cfg1.N) :
    (dat1 V c).flushed 7 t = ((cfg1.win 7).blk t).view.read (Elt Ideal) (result V c) := by
  show (cfg1.win 7).cut (grid1.coords t) ((dat1 V c).after 7 t) = _
  rw [after1_7]
  unfold out1_7
  rw [View.canon_unit_zero Table.zero_pair, View.ld_unit_zero Table.zero_pair, View.ld_unit_zero Table.zero_pair,
    View.ld_unit_zero Table.zero_pair, View.ld_unit_zero Table.zero_pair, View.ld_unit_zero Table.zero_pair,
    View.ld_unit_zero Table.zero_pair, View.ld_unit_zero Table.zero_pair, block4, block5, block6]
  funext j
  obtain ⟨r, l, rfl⟩ : ∃ (r : Fin 400) (l : Fin 128), j = (ix2 r l : S400x128.Idx) := ⟨j 0, j 1, eq_ix2 j⟩
  refine (pay_apply _ _ _ _ _ _ _ r l).trans ?_
  show _ = result V c (((cfg1.win 7).blk t).view.emb (ix2 r l : S400x128.Idx))
  rw [place7, block2, block3]
  simp only [block0, block1]
  rfl

/-- The 25 blocks of 400 rows cover the array. -/
theorem covered (i : S10000x128.Idx) :
    ∃ t : Fin cfg1.N, (cfg1.win 7).flush t = true ∧ i ∈ ((cfg1.win 7).blk t).view.set := by
  obtain ⟨n, l, rfl⟩ : ∃ (n : Fin 10000) (l : Fin 128), i = (ix2 n l : S10000x128.Idx) := ⟨i 0, i 1, eq_ix2 i⟩
  have hn := n.isLt
  have ht : n.val / 400 < cfg1.N := by show n.val / 400 < 25; omega
  refine ⟨⟨n.val / 400, ht⟩, flush1_7 _, ?_⟩
  have h := ((cfg1.win 7).blk ⟨n.val / 400, ht⟩).view.emb_mem_set (ix2 (⟨n.val % 400, by omega⟩ : Fin 400) l : S400x128.Idx)
  rw [place7] at h
  rwa [show row ⟨n.val / 400, ht⟩ (⟨n.val % 400, by omega⟩ : Fin 400) = n from
    Fin.ext (by show n.val / 400 * 400 + n.val % 400 = n.val; omega)] at h

/-- After the call the result array is `result`. -/
theorem final (c : Dev nD) : (dat1 V c).arrAt 7 cfg1.N = result V c :=
  (dat1 V c).arrAt_eq_of_cover 7 _ (fun t _ => flushed V c t) covered

end Cert.Proof.Combine

end
-- ==== Proof.Ssa.lean ====
/- The host line between the kernel's two calls writes each of its arrays once, each operation after those it reads. So at
   the line's end every array holds its operation's value at what the line leaves in the operands: one equation per
   operation, with no intermediate state in it. -/
module

public import proofs.«01_k».proof.Proof.Gen.KernelIdeal.Frame
public import Idealize.ShloMosaic.Lib.StableHlo.RunRead

@[expose] public section

set_option maxRecDepth 16384

noncomputable section

namespace Cert.Proof.Ssa

open Idealize.ShloMosaic Idealize.ShloMosaic.TcCoe Idealize.SL.Sem Idealize.ShloMosaic.StableHlo
open Cert.KernelIdeal Cert.KernelIdeal.Gen

/-! ## Any line that writes the arrays of a list, in the list's order -/

section Line

variable {τ : Topo} {sig : RefSig} {Val : EltTy → Type} {ops : List (HloOp τ sig Val)} {W : List (Ref sig .tc)}

/-- What stands at the line's end in an array that the operations from position `i` on do not write is what stood there
    before them. -/
theorem settled (hW : ops.map HloOp.writes = W.map fun w => {Proc.devRef (τ := τ) .tc w}) (i : ℕ) {r : Ref sig .tc}
    (hr : r ∉ W.drop i) (V : Valuation τ sig Val) :
    upto ops V i (Proc.devRef .tc r) = after ops V (Proc.devRef .tc r) := by
  have h : after ops V = after (ops.drop i) (upto ops V i) := by
    rw [upto, ← after_append, List.take_append_drop]
  rw [h]
  exact (after_unwritten (W.drop i) (by rw [List.map_drop, hW, List.map_drop]) hr _).symm

/-- The writes of what follows position `i`. -/
theorem tail_writes (hW : ops.map HloOp.writes = W.map fun w => {Proc.devRef (τ := τ) .tc w}) {i : ℕ} {op : HloOp τ sig Val}
    {rest : List (HloOp τ sig Val)} (hseg : ops.drop i = op :: rest) :
    rest.map HloOp.writes = (W.drop (i + 1)).map fun w => {Proc.devRef (τ := τ) .tc w} := by
  have h : rest = ops.drop (i + 1) := by rw [← List.drop_drop, hseg]; rfl
  rw [h, List.map_drop, hW, List.map_drop]

end Line

/-! ## The line between the calls -/

variable {F : FTy → Type} [FloatOps F]

/-- What its operations write, in order. -/
theorem writes : (hostOps1 : List (HloOp τ sig (Elt F))).map HloOp.writes
    = hostOps1_W.map fun w => {Proc.devRef (τ := τ) .tc w} := rfl

/-- What the line leaves in an array. -/
abbrev left (V : Valuation τ sig (Elt F)) (r : Ref sig .tc) : r.ty.Contents (Elt F) := after hostOps1 V (Proc.devRef .tc r)

variable {V : Valuation τ sig (Elt F)} {a b c y : Ref sig .tc} {rest : List (HloOp τ sig (Elt F))}

/-- A constant's array holds the constant at the line's end. -/
theorem nullary_end (i : ℕ) {v : y.ty.Contents (Elt F)} {hy} (hseg : hostOps1.drop i = nullary y v hy :: rest)
    (hn : y ∉ hostOps1_W.drop (i + 1)) : left V y = v := by
  rw [left, after_last_write _ hseg (tail_writes writes hseg) hn, nullary_result']

/-- The array of an operation of one operand. -/
theorem unary_end (i : ℕ) {f : a.ty.Contents (Elt F) → y.ty.Contents (Elt F)} {ha hy}
    (hseg : hostOps1.drop i = unary a y f ha hy :: rest) (hn : y ∉ hostOps1_W.drop (i + 1) ∧ a ∉ hostOps1_W.drop i) :
    left V y = f (left V a) := by
  rw [left, after_last_write _ hseg (tail_writes writes hseg) hn.1, unary_result', settled writes i hn.2]

/-- The array of an operation of two operands. -/
theorem binary_end (i : ℕ) {f : a.ty.Contents (Elt F) → b.ty.Contents (Elt F) → y.ty.Contents (Elt F)} {ha hb hy}
    (hseg : hostOps1.drop i = binary a b y f ha hb hy :: rest)
    (hn : y ∉ hostOps1_W.drop (i + 1) ∧ a ∉ hostOps1_W.drop i ∧ b ∉ hostOps1_W.drop i) :
    left V y = f (left V a) (left V b) := by
  rw [left, after_last_write _ hseg (tail_writes writes hseg) hn.1, binary_result', settled writes i hn.2.1,
    settled writes i hn.2.2]

/-- The array of an operation of three operands. -/
theorem ternary_end (i : ℕ) {f : c.ty.Contents (Elt F) → a.ty.Contents (Elt F) → b.ty.Contents (Elt F) → y.ty.Contents (Elt F)}
    {hc ha hb hy} (hseg : hostOps1.drop i = ternary c a b y f hc ha hb hy :: rest)
    (hn : y ∉ hostOps1_W.drop (i + 1) ∧ c ∉ hostOps1_W.drop i ∧ a ∉ hostOps1_W.drop i ∧ b ∉ hostOps1_W.drop i) :
    left V y = f (left V c) (left V a) (left V b) := by
  rw [left, after_last_write _ hseg (tail_writes writes hseg) hn.1, ternary_result', settled writes i hn.2.1,
    settled writes i hn.2.2.1, settled writes i hn.2.2.2]

/-- The line after one more operation. -/
theorem drop_succ {i : ℕ} {op : HloOp τ sig (Elt F)} (hseg : hostOps1.drop i = op :: rest) :
    hostOps1.drop (i + 1) = rest := by rw [← List.drop_drop, hseg]; rfl

/-- An array that no operation from a position on writes is not written from a later position on. -/
theorem not_mem_later {r : Ref sig .tc} {i : ℕ} (h : r ∉ hostOps1_W.drop i) (j : ℕ) : r ∉ hostOps1_W.drop (i + j) := by
  rw [← List.drop_drop]; exact fun hm => h (List.mem_of_mem_drop hm)

/-- The eight operations by which an index array is wrapped (a negative index counts from the end) and laid out as a column:
    two constants spread out, a comparison, a sum, a choice and a broadcast. -/
theorem wrap_end (i : ℕ) {x k0 s0 lt k1 s1 sum sel : Ref sig .tc} {v0 : k0.ty.Contents (Elt F)} {v1 : k1.ty.Contents (Elt F)}
    {f0 : k0.ty.Contents (Elt F) → s0.ty.Contents (Elt F)} {f1 : k1.ty.Contents (Elt F) → s1.ty.Contents (Elt F)}
    {g : x.ty.Contents (Elt F) → s0.ty.Contents (Elt F) → lt.ty.Contents (Elt F)}
    {g' : x.ty.Contents (Elt F) → s1.ty.Contents (Elt F) → sum.ty.Contents (Elt F)}
    {h : lt.ty.Contents (Elt F) → sum.ty.Contents (Elt F) → x.ty.Contents (Elt F) → sel.ty.Contents (Elt F)}
    {q : sel.ty.Contents (Elt F) → y.ty.Contents (Elt F)} {p0 p1 p2 p3 p4 p5 p6 p7 p8 p9 p10 p11 p12 p13 p14 p15 p16 p17}
    (hseg : hostOps1.drop i = nullary k0 v0 p0 :: unary k0 s0 f0 p1 p2 :: binary x s0 lt g p3 p4 p5 :: nullary k1 v1 p6
      :: unary k1 s1 f1 p7 p8 :: binary x s1 sum g' p9 p10 p11 :: ternary lt sum x sel h p12 p13 p14 p15
      :: unary sel y q p16 p17 :: rest)
    (hn : k0 ∉ hostOps1_W.drop (i + 1) ∧ s0 ∉ hostOps1_W.drop (i + 2) ∧ lt ∉ hostOps1_W.drop (i + 3)
      ∧ k1 ∉ hostOps1_W.drop (i + 4) ∧ s1 ∉ hostOps1_W.drop (i + 5) ∧ sum ∉ hostOps1_W.drop (i + 6)
      ∧ sel ∉ hostOps1_W.drop (i + 7) ∧ y ∉ hostOps1_W.drop (i + 8) ∧ x ∉ hostOps1_W.drop i) :
    left V y = q (h (g (left V x) (f0 v0)) (g' (left V x) (f1 v1)) (left V x)) := by
  obtain ⟨n0, n1, n2, n3, n4, n5, n6, n7, nx⟩ := hn
  have d1 := drop_succ hseg
  have d2 := drop_succ d1
  have d3 := drop_succ d2
  have d4 := drop_succ d3
  have d5 := drop_succ d4
  have d6 := drop_succ d5
  have d7 := drop_succ d6
  rw [unary_end (V := V) (i + 7) d7 ⟨n7, n6⟩,
    ternary_end (V := V) (i + 6) d6 ⟨n6, not_mem_later n2 3, n5, not_mem_later nx 6⟩,
    binary_end (V := V) (i + 5) d5 ⟨n5, not_mem_later nx 5, n4⟩,
    unary_end (V := V) (i + 4) d4 ⟨n4, n3⟩, nullary_end (V := V) (i + 3) d3 n3,
    binary_end (V := V) (i + 2) d2 ⟨n2, not_mem_later nx 2, n1⟩,
    unary_end (V := V) (i + 1) d1 ⟨n1, n0⟩, nullary_end (V := V) i hseg n0]

end Cert.Proof.Ssa

end
-- ==== Proof.Host.lean ====
/- What the host line between the two calls leaves, array by array, as terms of the reference's own stages: the two programs
   begin alike (the wrapped indices, the degrees, the differences of positions, the gathered features), and part at the
   normalizations, the bins and the tables, which are left here as the operations that make them. -/
module

public import proofs.«01_k».proof.Proof.Ssa
public import proofs.«01_k».proof.Proof.Gen.ReferenceIdeal.Read

@[expose] public section

set_option maxRecDepth 16384

noncomputable section

namespace Cert.Proof.Host

open Idealize.ShloMosaic Idealize.ShloMosaic.TcCoe Idealize.SL.Sem Idealize.ShloMosaic.StableHlo
open Cert.KernelIdeal Cert.KernelIdeal.Gen
open Cert.Proof.Ssa
open Cert.ReferenceIdeal.Read

variable {V : Valuation τ sig (Elt Ideal)}
variable {x0 : (⟨S10000x128, .f32⟩ : BufTy).Contents (Elt Ideal)} {x1 : (⟨S10000x3, .f32⟩ : BufTy).Contents (Elt Ideal)}
  {x4 : (⟨S256x128, .f32⟩ : BufTy).Contents (Elt Ideal)} {x5 : (⟨S128, .f32⟩ : BufTy).Contents (Elt Ideal)}
  {x6 : (⟨S2x160000, .i32⟩ : BufTy).Contents (Elt Ideal)} {x7 : (⟨S160000x2, .i32⟩ : BufTy).Contents (Elt Ideal)}

/-! ## The wrapped indices -/

section Indices

variable (hs : left V main_v1 = val_main_v1 (F := Ideal) x6) (hd : left V main_v3 = val_main_v3 (F := Ideal) x6)
  (h7 : left V main_arg7 = x7)

include hs in
/-- The source column, at v12. -/
theorem src_v12 : left V main_v12 = val_main_v24 (F := Ideal) x6 :=
  (wrap_end (V := V) 2 rfl (by decide +kernel)).trans (by rw [hs]; rfl)

include hs in
/-- The source column, at v32. -/
theorem src_v32 : left V main_v32 = val_main_v24 (F := Ideal) x6 :=
  (wrap_end (V := V) 30 rfl (by decide +kernel)).trans (by rw [hs]; rfl)

include hs in
/-- The source column, at v87. -/
theorem src_v87 : left V main_v87 = val_main_v24 (F := Ideal) x6 :=
  (wrap_end (V := V) 99 rfl (by decide +kernel)).trans (by rw [hs]; rfl)

include hs in
/-- The source column, at v104. -/
theorem src_v104 : left V main_v104 = val_main_v24 (F := Ideal) x6 :=
  (wrap_end (V := V) 120 rfl (by decide +kernel)).trans (by rw [hs]; rfl)

include hd in
/-- The destination column, at v21. -/
theorem dst_v21 : left V main_v21 = val_main_v15 (F := Ideal) x6 :=
  (wrap_end (V := V) 15 rfl (by decide +kernel)).trans (by rw [hd]; rfl)

include hd in
/-- The destination column, at v39. -/
theorem dst_v39 : left V main_v39 = val_main_v15 (F := Ideal) x6 :=
  (wrap_end (V := V) 39 rfl (by decide +kernel)).trans (by rw [hd]; rfl)

include hd in
/-- The destination column, at v134. -/
theorem dst_v134 : left V main_v134 = val_main_v15 (F := Ideal) x6 :=
  (wrap_end (V := V) 159 rfl (by decide +kernel)).trans (by rw [hd]; rfl)

include hd in
/-- The destination column, at v142. -/
theorem dst_v142 : left V main_v142 = val_main_v15 (F := Ideal) x6 :=
  (wrap_end (V := V) 170 rfl (by decide +kernel)).trans (by rw [hd]; rfl)

include hd in
/-- The destination column, at v150. -/
theorem dst_v150 : left V main_v150 = val_main_v15 (F := Ideal) x6 :=
  (wrap_end (V := V) 181 rfl (by decide +kernel)).trans (by rw [hd]; rfl)

include h7 in
/-- The column of intermediate nodes, at v62. -/
theorem ids_v62 : left V main_v62 = val_main_v54 (F := Ideal) x7 :=
  (wrap_end (V := V) 68 rfl (by decide +kernel)).trans (by rw [h7]; rfl)

include h7 in
/-- The column of intermediate nodes, at v122. -/
theorem ids_v122 : left V main_v122 = val_main_v54 (F := Ideal) x7 :=
  (wrap_end (V := V) 143 rfl (by decide +kernel)).trans (by rw [h7]; rfl)

/-! ## Degrees, positions and features -/

include hs in
/-- The count of outgoing edges. -/
theorem outdegree : left V main_v14 = val_main_v26 (F := Ideal) x6 := by
  rw [ternary_end (V := V) 12 rfl (by decide +kernel),
    unary_end (V := V) 1 rfl (by decide +kernel),
    nullary_end (V := V) 0 rfl (by decide +kernel),
    unary_end (V := V) 11 rfl (by decide +kernel),
    nullary_end (V := V) 10 rfl (by decide +kernel),
    src_v12 hs]
  rfl

include hd in
/-- The count of incoming edges. -/
theorem indegree : left V main_v23 = val_main_v17 (F := Ideal) x6 := by
  rw [ternary_end (V := V) 25 rfl (by decide +kernel),
    unary_end (V := V) 14 rfl (by decide +kernel),
    nullary_end (V := V) 13 rfl (by decide +kernel),
    unary_end (V := V) 24 rfl (by decide +kernel),
    nullary_end (V := V) 23 rfl (by decide +kernel),
    dst_v21 hd]
  rfl

variable (h0 : left V main_arg0 = x0) (h1 : left V main_arg1 = x1)

include hs h1 in
/-- Each edge's source position. -/
theorem positions_src : left V main_v33 = val_main_v46 (F := Ideal) x1 x6 := by
  rw [binary_end (V := V) 38 rfl (by decide +kernel),
    h1, src_v32 hs]
  rfl

include hd h1 in
/-- Each edge's destination position. -/
theorem positions_dst : left V main_v40 = val_main_v39 (F := Ideal) x1 x6 := by
  rw [binary_end (V := V) 47 rfl (by decide +kernel),
    h1, dst_v39 hd]
  rfl

include h1 h7 in
/-- The intermediate nodes' positions. -/
theorem positions_ids : left V main_v63 = val_main_v55 (F := Ideal) x1 x7 := by
  rw [binary_end (V := V) 76 rfl (by decide +kernel),
    h1, ids_v62 h7]
  rfl

include hs hd h1 in
/-- The squared distance of each edge's two ends. -/
theorem square1 : left V main_v43 = val_main_call2_v1 (F := Ideal) x1 x6 := by
  rw [binary_end (V := V) 51 rfl (by decide +kernel),
    binary_end (V := V) 49 rfl (by decide +kernel),
    binary_end (V := V) 48 rfl (by decide +kernel),
    nullary_end (V := V) 50 rfl (by decide +kernel),
    positions_src hs h1, positions_dst hd h1]
  rfl

/-- The reference gathers the source positions twice. -/
theorem later_positions : val_main_v62 (F := Ideal) x1 x6 = val_main_v46 (F := Ideal) x1 x6 := rfl

include hs h1 h7 in
/-- The squared distances of an edge's source and its intermediate nodes. -/
theorem square2 : left V main_v68 = val_main_call3_v1 (F := Ideal) x1 x6 x7 := by
  rw [binary_end (V := V) 82 rfl (by decide +kernel),
    binary_end (V := V) 80 rfl (by decide +kernel),
    binary_end (V := V) 79 rfl (by decide +kernel),
    unary_end (V := V) 78 rfl (by decide +kernel),
    unary_end (V := V) 77 rfl (by decide +kernel),
    nullary_end (V := V) 81 rfl (by decide +kernel),
    positions_src hs h1, positions_ids h7 h1, ← later_positions]
  unfold val_main_call3_v1 val_main_call3_v0 val_main_v65 val_main_v64 val_main_v63 val_main_call3_cst
  rfl

/-- The bins' upper bounds. -/
theorem bounds_v48 : left V main_v48 = val_main_v8 (F := Ideal) := by
  rw [binary_end (V := V) 58 rfl (by decide +kernel),
    binary_end (V := V) 55 rfl (by decide +kernel),
    unary_end (V := V) 57 rfl (by decide +kernel),
    unary_end (V := V) 54 rfl (by decide +kernel),
    nullary_end (V := V) 52 rfl (by decide +kernel),
    nullary_end (V := V) 53 rfl (by decide +kernel),
    nullary_end (V := V) 56 rfl (by decide +kernel)]
  rfl

/-- The bins' upper bounds, for the intermediate nodes. -/
theorem bounds_v73 : left V main_v73 = val_main_v8 (F := Ideal) := by
  rw [binary_end (V := V) 89 rfl (by decide +kernel),
    binary_end (V := V) 86 rfl (by decide +kernel),
    unary_end (V := V) 88 rfl (by decide +kernel),
    unary_end (V := V) 85 rfl (by decide +kernel),
    nullary_end (V := V) 83 rfl (by decide +kernel),
    nullary_end (V := V) 84 rfl (by decide +kernel),
    nullary_end (V := V) 87 rfl (by decide +kernel)]
  rfl

include hs hd h1 in
/-- Each edge's squared distance against the squared bounds. -/
theorem compared1 : left V main_v54 = cmpf (F := Ideal) (φ := .f32) .ogt
      (broadcastInDim S160000x32 ![0, 1] bcast_S160000x1_S160000x32_0_1
        (broadcastInDim S160000x1 ![0] bcast_S160000_S160000x1_0 (val_main_call2_v1 (F := Ideal) x1 x6)))
      (broadcastInDim S160000x32 ![0, 1] bcast_S1x32_S160000x32_0_1
        (broadcastInDim S1x32 ![1] bcast_S32_S1x32_1 (mulf (F := Ideal) (s := S32) (φ := .f32) (val_main_v8 (F := Ideal)) (val_main_v8 (F := Ideal))))) := by
  rw [binary_end (V := V) 64 rfl (by decide +kernel),
    unary_end (V := V) 62 rfl (by decide +kernel),
    unary_end (V := V) 63 rfl (by decide +kernel),
    unary_end (V := V) 60 rfl (by decide +kernel),
    unary_end (V := V) 61 rfl (by decide +kernel),
    binary_end (V := V) 59 rfl (by decide +kernel),
    square1 hs hd h1, bounds_v48]

include hs h1 h7 in
/-- The intermediate nodes' squared distances against the squared bounds. -/
theorem compared2 : left V main_v79 = cmpf (F := Ideal) (φ := .f32) .ogt
      (broadcastInDim S160000x2x32 ![0, 1, 2] bcast_S160000x2x1_S160000x2x32_0_1_2
        (broadcastInDim S160000x2x1 ![0, 1] bcast_S160000x2_S160000x2x1_0_1 (val_main_call3_v1 (F := Ideal) x1 x6 x7)))
      (broadcastInDim S160000x2x32 ![0, 1, 2] bcast_S1x1x32_S160000x2x32_0_1_2
        (broadcastInDim S1x1x32 ![2] bcast_S32_S1x1x32_2 (mulf (F := Ideal) (s := S32) (φ := .f32) (val_main_v8 (F := Ideal)) (val_main_v8 (F := Ideal))))) := by
  rw [binary_end (V := V) 95 rfl (by decide +kernel),
    unary_end (V := V) 93 rfl (by decide +kernel),
    unary_end (V := V) 94 rfl (by decide +kernel),
    unary_end (V := V) 91 rfl (by decide +kernel),
    unary_end (V := V) 92 rfl (by decide +kernel),
    binary_end (V := V) 90 rfl (by decide +kernel),
    square2 hs h7 h1, bounds_v73]

/-- The bins of the intermediate nodes: how many bounds are below. -/
theorem bins2 : left V main_v81 = Host.reduce IntOp.addi (extui 32 (left V main_v79) natLt_1_32) (constantI S_ 32 0#32)
      reducesTo_S160000x2x32_S160000x2_d2 h_S_ := by
  rw [binary_end (V := V) 98 rfl (by decide +kernel),
    unary_end (V := V) 96 rfl (by decide +kernel),
    nullary_end (V := V) 97 rfl (by decide +kernel)]

include h0 hs in
/-- Each edge's source features. -/
theorem features_src : left V main_v105 = val_main_v104 (F := Ideal) x0 x6 := by
  rw [binary_end (V := V) 128 rfl (by decide +kernel),
    h0, src_v104 hs]
  rfl

include h0 h7 in
/-- The intermediate nodes' features. -/
theorem features_ids : left V main_v123 = val_main_v93 (F := Ideal) x0 x7 := by
  rw [binary_end (V := V) 151 rfl (by decide +kernel),
    h0, ids_v122 h7]
  rfl

include hs in
/-- The nodes' normalization by outgoing edges. -/
theorem scale_src : left V main_v26 = Host.rsqrt (F := Ideal) (φ := .f32) (maximumf (F := Ideal) (s := S10000) (φ := .f32) (val_main_v26 (F := Ideal) x6)
      (broadcastInDim S10000 ![] bcast_S_S10000 (constant (F := Ideal) S_ .f32 0x3F800000#32))) := by
  rw [unary_end (V := V) 29 rfl (by decide +kernel),
    binary_end (V := V) 28 rfl (by decide +kernel),
    unary_end (V := V) 27 rfl (by decide +kernel),
    nullary_end (V := V) 26 rfl (by decide +kernel),
    outdegree hs]

/-! ## From the normalization and the gathered table rows to the three sums -/

section Sums

variable {x2 : (⟨S33x16, .f32⟩ : BufTy).Contents (Elt Ideal)} {x3 : (⟨S16x128, .f32⟩ : BufTy).Contents (Elt Ideal)}
  (hc : left V main_v26 = val_main_v32 (F := Ideal) x6) (ht1 : left V main_v96 = val_main_v75 (F := Ideal) x1 x2 x3 x6)
  (ht2 : left V main_v116 = val_main_v86 (F := Ideal) x1 x2 x3 x6 x7)

include hs hc in
/-- Each edge's coefficient, its source's normalization. -/
theorem coefficient : left V main_v88 = val_main_v121 (F := Ideal) x6 := by
  rw [binary_end (V := V) 107 rfl (by decide +kernel),
    hc, src_v87 hs]
  rfl

include hs hc ht1 h0 in
/-- The first half of each edge's message. -/
theorem message1 : left V main_v106 = mulf (F := Ideal) (s := S160000x128) (φ := .f32) (mulf (F := Ideal) (s := S160000x128) (φ := .f32) (broadcastInDim S160000x128 ![0, 1] bcast_S160000x1_S160000x128_0_1
      (broadcastInDim S160000x1 ![0] bcast_S160000_S160000x1_0 (val_main_v121 (F := Ideal) x6)))
      (val_main_v75 (F := Ideal) x1 x2 x3 x6)) (val_main_v104 (F := Ideal) x0 x6) := by
  rw [binary_end (V := V) 129 rfl (by decide +kernel),
    binary_end (V := V) 119 rfl (by decide +kernel),
    unary_end (V := V) 118 rfl (by decide +kernel),
    unary_end (V := V) 108 rfl (by decide +kernel),
    coefficient hs hc, ht1, features_src hs h0]

include ht2 h0 h7 in
/-- The sum over an edge's intermediate nodes. -/
theorem message_sum : left V main_v125 = val_main_v95 (F := Ideal) x0 x1 x2 x3 x6 x7 := by
  rw [binary_end (V := V) 154 rfl (by decide +kernel),
    binary_end (V := V) 152 rfl (by decide +kernel),
    nullary_end (V := V) 153 rfl (by decide +kernel),
    ht2, features_ids h7 h0]
  rfl

include hs h7 hc ht2 h0 in
/-- The second half of each edge's message. -/
theorem message2 : left V main_v127 = mulf (F := Ideal) (s := S160000x128) (φ := .f32) (broadcastInDim S160000x128 ![0, 1] bcast_S160000x1_S160000x128_0_1
      (broadcastInDim S160000x1 ![0] bcast_S160000_S160000x1_0 (Host.divf (F := Ideal) (s := S160000) (φ := .f32) (val_main_v121 (F := Ideal) x6)
        (broadcastInDim S160000 ![] bcast_S_S160000 (constant (F := Ideal) S_ .f32 0x40000000#32)))))
      (val_main_v95 (F := Ideal) x0 x1 x2 x3 x6 x7) := by
  rw [binary_end (V := V) 156 rfl (by decide +kernel),
    unary_end (V := V) 155 rfl (by decide +kernel),
    unary_end (V := V) 133 rfl (by decide +kernel),
    binary_end (V := V) 132 rfl (by decide +kernel),
    unary_end (V := V) 131 rfl (by decide +kernel),
    nullary_end (V := V) 130 rfl (by decide +kernel),
    coefficient hs hc, message_sum h7 h0 ht2]

include hd in
/-- The first halves summed at the destinations. -/
theorem sum1 : left V main_v135 = Host.scatterAdd (F := Ideal) (φ := .f32) scatter_S10000x128_S160000x1_S160000x128_1_0_0_1
      (broadcastInDim S10000x128 ![] bcast_S_S10000x128 (constant (F := Ideal) S_ .f32 0x00000000#32)) (val_main_v15 (F := Ideal) x6)
      (left V main_v106) := by
  rw [ternary_end (V := V) 167 rfl (by decide +kernel),
    unary_end (V := V) 158 rfl (by decide +kernel),
    nullary_end (V := V) 157 rfl (by decide +kernel),
    dst_v134 hd]

include hd in
/-- The second halves summed at the destinations. -/
theorem sum2 : left V main_v143 = Host.scatterAdd (F := Ideal) (φ := .f32) scatter_S10000x128_S160000x1_S160000x128_1_0_0_1
      (broadcastInDim S10000x128 ![] bcast_S_S10000x128 (constant (F := Ideal) S_ .f32 0x00000000#32)) (val_main_v15 (F := Ideal) x6)
      (left V main_v127) := by
  rw [ternary_end (V := V) 178 rfl (by decide +kernel),
    unary_end (V := V) 169 rfl (by decide +kernel),
    nullary_end (V := V) 168 rfl (by decide +kernel),
    dst_v142 hd]

include hs hd hc in
/-- The coefficients summed at the destinations. -/
theorem sum3 : left V main_v152 = broadcastInDim S10000x1 ![0] bcast_S10000_S10000x1_0
      (Host.scatterAdd (F := Ideal) (φ := .f32) scatter_S10000_S160000x1_S160000_n_0_0_1
        (broadcastInDim S10000 ![] bcast_S_S10000 (constant (F := Ideal) S_ .f32 0x00000000#32)) (val_main_v15 (F := Ideal) x6)
        (val_main_v121 (F := Ideal) x6)) := by
  rw [unary_end (V := V) 190 rfl (by decide +kernel),
    ternary_end (V := V) 189 rfl (by decide +kernel),
    unary_end (V := V) 180 rfl (by decide +kernel),
    nullary_end (V := V) 179 rfl (by decide +kernel),
    dst_v150 hd, coefficient hs hc]

end Sums

include hd in
/-- The counts of incoming edges as a column. -/
theorem degree_column : left V main_v153 = broadcastInDim S10000x1 ![0] bcast_S10000_S10000x1_0 (val_main_v17 (F := Ideal) x6) := by
  rw [unary_end (V := V) 191 rfl (by decide +kernel),
    indegree hd]

end Indices

/-! ## The weights -/

/-- The weights' first 128 rows. -/
theorem weight1 (h4 : left V main_arg4 = x4) : left V main_v154 = extractStridedSlice S128x128 ![0, 0] x4 slices_S256x128_S128x128_0_0 := by
  rw [unary_end (V := V) 192 rfl (by decide +kernel),
    h4]

/-- The weights' last 128 rows. -/
theorem weight2 (h4 : left V main_arg4 = x4) : left V main_v155 = extractStridedSlice S128x128 ![128, 0] x4 slices_S256x128_S128x128_128_0 := by
  rw [unary_end (V := V) 193 rfl (by decide +kernel),
    h4]

/-- The bias as a row. -/
theorem bias (h5 : left V main_arg5 = x5) : left V main_v156 = broadcastInDim S1x128 ![1] bcast_S128_S1x128_1 x5 := by
  rw [unary_end (V := V) 194 rfl (by decide +kernel),
    h5]

/-! ## The gathered table rows -/

/-- Each edge's table row, at the wrapped column of its bin. -/
theorem rows1 : left V main_v96 = Host.gather gather_S40x128_S160000x1_S160000x128_1_0_n_n_0_1_1128 (left V main_v5)
    (broadcastInDim S160000x1 ![0] bcast_S160000_S160000x1_0
      (select (cmpi .slt (left V main_v56) (broadcastInDim S160000 ![] bcast_S_S160000 (constantI S_ 32 0#32)))
        (addi (left V main_v56) (broadcastInDim S160000 ![] bcast_S_S160000 (constantI S_ 32 40#32))) (left V main_v56))) := by
  rw [binary_end (V := V) 117 rfl (by decide +kernel), wrap_end (V := V) 109 rfl (by decide +kernel)]

/-- The intermediate nodes' table rows, at the wrapped columns of their bins. -/
theorem rows2 : left V main_v116 = Host.gather gather_S40x128_S160000x2x1_S160000x2x128_2_0_n_n_0_2_1128 (left V main_v5)
    (broadcastInDim S160000x2x1 ![0, 1] bcast_S160000x2_S160000x2x1_0_1
      (select (cmpi .slt (left V main_v81) (broadcastInDim S160000x2 ![] bcast_S_S160000x2 (constantI S_ 32 0#32)))
        (addi (left V main_v81) (broadcastInDim S160000x2 ![] bcast_S_S160000x2 (constantI S_ 32 40#32)))
        (left V main_v81))) := by
  rw [binary_end (V := V) 142 rfl (by decide +kernel), wrap_end (V := V) 134 rfl (by decide +kernel)]

/-- The bins of the edges: how many bounds are below. -/
theorem bins1 : left V main_v56 = Host.reduce IntOp.addi (extui 32 (left V main_v54) natLt_1_32) (constantI S_ 32 0#32)
      reducesTo_S160000x32_S160000_d1 h_S_ := by
  rw [binary_end (V := V) 67 rfl (by decide +kernel),
    unary_end (V := V) 65 rfl (by decide +kernel),
    nullary_end (V := V) 66 rfl (by decide +kernel)]

end Cert.Proof.Host

end
-- ==== Proof.Scatter.lean ====
module
public import proofs.«01_k».proof.Proof.Host
public import Idealize.ShloMosaic.Lib.Pointwise
public import Idealize.ShloMosaic.Lib.Routing.OpsPair
@[expose] public section
set_option maxRecDepth 16384
noncomputable section

/-!
# Sums over edges

Adding edge values into nodes, read at one node: the sum over the edges whose word names the node.
-/

namespace Cert.Proof.Scatter
open Idealize.ShloMosaic Idealize.ShloMosaic.TcCoe Idealize.SL.Sem Idealize.ShloMosaic.StableHlo
open Cert.KernelIdeal Cert.KernelIdeal.Gen

/-- The edges whose word, read signed, is node `n`. -/
def hits (idx : IVec S160000x1 32) (n : Fin 10000) : Finset (Fin 160000) :=
  Finset.univ.filter fun e => (idx (ix2 e (0 : Fin 1))).toInt = (n.val : ℤ)

/-- Membership among the edges that name a node. -/
theorem mem_hits (idx : IVec S160000x1 32) (n : Fin 10000) (e : Fin 160000) :
    e ∈ hits idx n ↔ (idx (ix2 e (0 : Fin 1))).toInt = (n.val : ℤ) := by
  simp [hits]

/-- An edge's value lands at node `n` exactly when the edge's word names it. -/
theorem lands1 (idx : IVec S160000x1 32) (n : Fin 10000) (e : Fin 160000) :
    scatter_S10000_S160000x1_S160000_n_0_0_1.resultIdx? (ix1 e) idx = some (ix1 n) ↔ e ∈ hits idx n := by
  have hs : ScatterDims.start scatter_S10000_S160000x1_S160000_n_0_0_1 (ix1 e) idx 0 = (idx (ix2 e (0 : Fin 1))).toInt := by
    have hi : ScatterDims.siIdx scatter_S10000_S160000x1_S160000_n_0_0_1 (ix1 e) ⟨0, by decide⟩ = ix2 e (0 : Fin 1) := by
      funext b
      match b with
      | ⟨0, _⟩ => rfl
      | ⟨1, _⟩ => rfl
    exact congrArg (fun v => BitVec.toInt (idx v)) hi
  have hw : ScatterDims.window scatter_S10000_S160000x1_S160000_n_0_0_1 (ix1 e) 0 = 0 := rfl
  rw [Routing.resultIdx?_eq_some, mem_hits]
  constructor
  · intro h
    have h0 := h 0
    rw [hs, hw] at h0
    simpa using h0
  · intro h a
    match a with
    | ⟨0, _⟩ =>
      show ScatterDims.start _ (ix1 e) idx 0 + ((ScatterDims.window scatter_S10000_S160000x1_S160000_n_0_0_1 (ix1 e) 0 : ℕ) : ℤ) = (n.val : ℤ)
      rw [hs, hw, h]
      simp

/-- An edge's row lands in node `n`'s row exactly when the edge's word names it, column by column. -/
theorem lands2 (idx : IVec S160000x1 32) (n : Fin 10000) (k l : Fin 128) (e : Fin 160000) :
    scatter_S10000x128_S160000x1_S160000x128_1_0_0_1.resultIdx? (ix2 e l) idx = some (ix2 n k) ↔ e ∈ hits idx n ∧ l = k := by
  have hs : ScatterDims.start scatter_S10000x128_S160000x1_S160000x128_1_0_0_1 (ix2 e l) idx 0 = (idx (ix2 e (0 : Fin 1))).toInt := by
    have hi : ScatterDims.siIdx scatter_S10000x128_S160000x1_S160000x128_1_0_0_1 (ix2 e l) ⟨0, by decide⟩ = ix2 e (0 : Fin 1) := by
      funext b
      match b with
      | ⟨0, _⟩ => rfl
      | ⟨1, _⟩ => rfl
    exact congrArg (fun v => BitVec.toInt (idx v)) hi
  have hw : ScatterDims.window scatter_S10000x128_S160000x1_S160000x128_1_0_0_1 (ix2 e l) 0 = 0 := rfl
  have hs1 : ScatterDims.start scatter_S10000x128_S160000x1_S160000x128_1_0_0_1 (ix2 e l) idx 1 = 0 := rfl
  have hw1 : ScatterDims.window scatter_S10000x128_S160000x1_S160000x128_1_0_0_1 (ix2 e l) 1 = l.val := rfl
  rw [Routing.resultIdx?_eq_some, mem_hits]
  constructor
  · intro h
    have h0 := h 0
    have h1 := h 1
    rw [hs, hw] at h0
    rw [hs1, hw1] at h1
    have h1' : (l.val : ℤ) = (k.val : ℤ) := by simpa using h1
    exact ⟨by simpa using h0, Fin.ext (by exact_mod_cast h1')⟩
  · rintro ⟨h, rfl⟩ a
    match a with
    | ⟨0, _⟩ =>
      show ScatterDims.start _ (ix2 e l) idx 0 + ((ScatterDims.window scatter_S10000x128_S160000x1_S160000x128_1_0_0_1 (ix2 e l) 0 : ℕ) : ℤ) = (n.val : ℤ)
      rw [hs, hw, h]
      simp
    | ⟨1, _⟩ =>
      show ScatterDims.start _ (ix2 e l) idx 1 + ((ScatterDims.window scatter_S10000x128_S160000x1_S160000x128_1_0_0_1 (ix2 e l) 1 : ℕ) : ℤ) = (l.val : ℤ)
      rw [hs1, hw1]
      simp

/-- Edge values added into nodes, at one node. -/
theorem sum1 (x : FVec Ideal S10000 .f32) (idx : IVec S160000x1 32) (upd : FVec Ideal S160000 .f32) (n : Fin 10000) :
    Host.scatterAdd (F := Ideal) (φ := .f32) scatter_S10000_S160000x1_S160000_n_0_0_1 x idx upd (ix1 n)
      = x (ix1 n) + ∑ e ∈ hits idx n, upd (ix1 e) := by
  show x (ix1 n) + _ = _
  refine congrArg (x (ix1 n) + ·) ?_
  refine Finset.sum_nbij' (fun j => j 0) (fun e => ix1 e) ?_ ?_ ?_ ?_ ?_
  · intro j hj
    rw [eq_ix1 j] at hj
    exact (lands1 idx n (j 0)).1 (Finset.mem_filter.1 hj).2
  · intro e he
    exact Finset.mem_filter.2 ⟨Finset.mem_univ _, (lands1 idx n e).2 he⟩
  · intro j _
    exact (eq_ix1 j).symm
  · intro e _
    rfl
  · intro j _
    exact congrArg upd (eq_ix1 j)

/-- Edge rows added into node rows, at one node and column. -/
theorem sum2 (x : FVec Ideal S10000x128 .f32) (idx : IVec S160000x1 32) (upd : FVec Ideal S160000x128 .f32) (n : Fin 10000) (k : Fin 128) :
    Host.scatterAdd (F := Ideal) (φ := .f32) scatter_S10000x128_S160000x1_S160000x128_1_0_0_1 x idx upd (ix2 n k)
      = x (ix2 n k) + ∑ e ∈ hits idx n, upd (ix2 e k) := by
  show x (ix2 n k) + _ = _
  refine congrArg (x (ix2 n k) + ·) ?_
  have key : ∀ j : S160000x128.Idx, scatter_S10000x128_S160000x1_S160000x128_1_0_0_1.resultIdx? j idx = some (ix2 n k) ↔
      (j 0) ∈ hits idx n ∧ j 1 = k := fun j => by
    have h := lands2 idx n k (j 1) (j 0)
    rwa [← eq_ix2 j] at h
  refine Finset.sum_nbij' (fun j => j 0) (fun e => ix2 e k) ?_ ?_ ?_ ?_ ?_
  · intro j hj
    exact ((key j).1 (Finset.mem_filter.1 hj).2).1
  · intro e he
    exact Finset.mem_filter.2 ⟨Finset.mem_univ _, (lands2 idx n k k e).2 ⟨he, rfl⟩⟩
  · intro j hj
    have h := ((key j).1 (Finset.mem_filter.1 hj).2).2
    show ix2 (j 0) k = j
    rw [← h]
    exact (eq_ix2 j).symm
  · intro e _
    rfl
  · intro j hj
    have h := ((key j).1 (Finset.mem_filter.1 hj).2).2
    show upd j = upd (ix2 (j 0) k)
    rw [← h]
    exact congrArg upd (eq_ix2 j)

/-- A vector over the nodes, looked up by an edge's word that names node `n`. -/
theorem gathered {α : Type} (x : S10000.Idx → α) (idx : IVec S160000x1 32) (e : Fin 160000) (n : Fin 10000) (h : e ∈ hits idx n) :
    Host.gather gather_S10000_S160000x1_S160000_n_0_n_n_0_1_1 x idx (ix1 e) = x (ix1 n) := by
  unfold Host.gather
  refine congrArg x (funext fun a => Fin.ext ?_)
  match a with
  | ⟨0, _⟩ =>
    have hi : GatherDims.siIdx gather_S10000_S160000x1_S160000_n_0_n_n_0_1_1 (ix1 e) ⟨0, by decide⟩ = ix2 e (0 : Fin 1) := by
      funext b
      match b with
      | ⟨0, _⟩ => rfl
      | ⟨1, _⟩ => rfl
    refine (congrArg (fun v => min (BitVec.toInt (idx v)).toNat 9999) hi).trans ?_
    show min (BitVec.toInt (idx (ix2 e (0 : Fin 1)))).toNat 9999 = n.val
    rw [(mem_hits idx n e).1 h]
    omega

end Cert.Proof.Scatter
end
-- ==== Proof.Degree.lean ====
module
public import proofs.«01_k».proof.Proof.Scatter
@[expose] public section
set_option maxRecDepth 16384
noncomputable section

/-!
# The degrees

The kernel takes a reciprocal root of a degree, the reference a power of `-1/2`. A degree counts
edges, so both are the same positive number.
-/

namespace Cert.Proof.Degree
open Idealize.ShloMosaic Idealize.ShloMosaic.TcCoe Idealize.SL.Sem Idealize.ShloMosaic.StableHlo
open Cert.KernelIdeal Cert.KernelIdeal.Gen
open Cert.ReferenceIdeal.Read
open Cert.Proof.Ssa Cert.Proof.Scatter

/-- The pattern of minus a half denotes `-1 / 2`. -/
theorem minus_half : Ideal.ofBits .f32 0xBF000000#32 = ((-1 / 2 : ℝ) : EReal) := by
  simp [Ideal.ofBits, Ideal.ieee, -EReal.coe_mul]; norm_num

/-- The reciprocal root of a number that is at least one. -/
def scale (m : ℕ) : ℝ := (Real.sqrt (max (m : ℝ) 1))⁻¹

/-- A scale is positive. -/
theorem scale_pos (m : ℕ) : 0 < scale m := by
  have : (0 : ℝ) < max (m : ℝ) 1 := lt_of_lt_of_le one_pos (le_max_right _ _)
  exact inv_pos.mpr (Real.sqrt_pos.mpr this)

/-- The kernel's scale of a count. -/
theorem rsqrt_count (m : ℕ) : Ideal.rsqrt (max (((m : ℝ) : EReal)) 1) = (scale m : EReal) := by
  have h1 : (1 : ℝ) ≤ max (m : ℝ) 1 := le_max_right _ _
  have : max (((m : ℝ) : EReal)) 1 = ((max (m : ℝ) 1 : ℝ) : EReal) := by
    rw [EReal.coe_strictMono.monotone.map_max, EReal.coe_one]
  rw [this, Ideal.rsqrt_coe, if_neg (by linarith), if_neg (by linarith)]
  rfl

/-- The reference's scale of a count. -/
theorem pow_count (m : ℕ) : Ideal.pow (max 1 (((m : ℝ) : EReal))) ((-1 / 2 : ℝ) : EReal) = (scale m : EReal) := by
  have h1 : (1 : ℝ) ≤ max (m : ℝ) 1 := le_max_right _ _
  have : max 1 (((m : ℝ) : EReal)) = ((max (m : ℝ) 1 : ℝ) : EReal) := by
    rw [max_comm, EReal.coe_strictMono.monotone.map_max, EReal.coe_one]
  rw [this, Ideal.pow_coe_coe]
  refine congrArg _ ?_
  show (max (m : ℝ) 1) ^ (-1 / 2 : ℝ) = _
  rw [show (-1 / 2 : ℝ) = -(1 / 2) by norm_num, Real.rpow_neg (by linarith), ← Real.sqrt_eq_rpow]
  rfl

/-- Ones summed over a set count it. -/
theorem sum_ones {ι : Type} (s : Finset ι) : ∑ _e ∈ s, (1 : EReal) = (((s.card : ℕ) : ℝ) : EReal) := by
  classical
  induction s using Finset.induction_on with
  | empty => simp
  | insert a s ha ih =>
    rw [Finset.sum_insert ha, ih, Finset.card_insert_of_notMem ha]
    push_cast
    rw [add_comm]

variable (x6 : IVec S2x160000 32)

/-- A node's in-degree counts the edges that end there. -/
theorem indegree (n : Fin 10000) : val_main_v17 (F := Ideal) x6 (ix1 n) = ((((hits (val_main_v15 (F := Ideal) x6) n).card : ℕ) : ℝ) : EReal) := by
  refine (sum1 (val_main_v9 (F := Ideal)) (val_main_v15 (F := Ideal) x6) (val_main_v16 (F := Ideal)) n).trans ?_
  rw [← sum_ones]
  pointwise [val_main_v9, val_main_cst_1, val_main_v16, val_main_cst_3]

/-- A node's out-degree counts the edges that start there. -/
theorem outdegree (n : Fin 10000) : val_main_v26 (F := Ideal) x6 (ix1 n) = ((((hits (val_main_v24 (F := Ideal) x6) n).card : ℕ) : ℝ) : EReal) := by
  refine (sum1 (val_main_v18 (F := Ideal)) (val_main_v24 (F := Ideal) x6) (val_main_v25 (F := Ideal)) n).trans ?_
  rw [← sum_ones]
  pointwise [val_main_v18, val_main_cst_4, val_main_v25, val_main_cst_7]

/-- The reference's scale of a node by its in-degree. -/
theorem scale_in (n : Fin 10000) : val_main_v29 (F := Ideal) x6 (ix1 n) = (scale (hits (val_main_v15 (F := Ideal) x6) n).card : EReal) := by
  rw [← pow_count, ← indegree, ← minus_half]
  pointwise [val_main_v29, val_main_v28, val_main_cst_9, val_main_v27, val_main_call0_v1, val_main_call0_v0, val_main_cst_8, id_eq]

/-- The reference's scale of a node by its out-degree. -/
theorem scale_out (n : Fin 10000) : val_main_v32 (F := Ideal) x6 (ix1 n) = (scale (hits (val_main_v24 (F := Ideal) x6) n).card : EReal) := by
  rw [← pow_count, ← outdegree, ← minus_half]
  pointwise [val_main_v32, val_main_v31, val_main_cst_11, val_main_v30, val_main_call1_v1, val_main_call1_v0, val_main_cst_10, id_eq]

/-- The kernel's scale of a node by its in-degree is the reference's. -/
theorem kernel_scale_in (n : Fin 10000) : Ideal.rsqrt (max (val_main_v17 (F := Ideal) x6 (ix1 n)) 1) = val_main_v29 (F := Ideal) x6 (ix1 n) := by
  rw [scale_in, indegree, rsqrt_count]

/-- The kernel's scale of the nodes by their out-degree is the reference's. -/
theorem kernel_scale_out : Host.rsqrt (F := Ideal) (s := S10000) (φ := .f32) (maximumf (F := Ideal) (s := S10000) (φ := .f32) (val_main_v26 (F := Ideal) x6)
      (broadcastInDim S10000 ![] bcast_S_S10000 (constant (F := Ideal) S_ .f32 0x3F800000#32)))
    = val_main_v32 (F := Ideal) x6 := by
  funext j
  idx_vars j
  refine Eq.trans ?_ ((rsqrt_count _).trans (scale_out x6 j0).symm)
  rw [← outdegree]
  pointwise

/-- An edge's coefficient, its source's scale, is a positive number. -/
theorem coefficient_pos (e : Fin 160000) : ∃ c : ℝ, 0 < c ∧ val_main_v121 (F := Ideal) x6 (ix1 e) = (c : EReal) := by
  have h : ∀ j : S10000.Idx, ∃ c : ℝ, 0 < c ∧ val_main_v32 (F := Ideal) x6 j = (c : EReal) := by
    intro j
    idx_vars j
    exact ⟨_, scale_pos _, scale_out x6 j0⟩
  exact h _

end Cert.Proof.Degree
end
-- ==== Proof.Bins.lean ====
module
public import proofs.«01_k».proof.Proof.Host
public import Idealize.ShloMosaic.Lib.Pointwise
@[expose] public section
set_option maxRecDepth 16384
noncomputable section

/-!
# The bins

The kernel puts a distance into a bin by comparing its square with the squares of the
boundaries; the reference compares the distance itself. The bins are the same.
-/

namespace Cert.Proof.Bins
open Idealize.ShloMosaic Idealize.ShloMosaic.TcCoe Idealize.SL.Sem
open Cert.KernelIdeal Cert.KernelIdeal.Gen
open Cert.ReferenceIdeal.Read
open Cert.Proof.Ssa Idealize.ShloMosaic.StableHlo

/-- A square of an extended real isn't negative. -/
theorem square_nonneg (x : EReal) : 0 ≤ x * x := by
  rcases le_total 0 x with h | h
  · exact mul_nonneg h h
  · have h' : (0 : EReal) ≤ -x := by simpa using EReal.neg_le_neg_iff.mpr h
    simpa using mul_nonneg h' h'

/-- A nonnegative number lies below a root exactly when its square lies below what the root is taken of. -/
theorem square_lt (b : ℝ) (hb : 0 ≤ b) (s : EReal) (hs : 0 ≤ s) :
    (b : EReal) * b < s ↔ (b : EReal) < Ideal.sqrt s := by
  induction s with
  | bot => simp at hs
  | top => simp [← EReal.coe_mul]
  | coe r =>
    have hr : 0 ≤ r := by exact_mod_cast hs
    rw [Ideal.sqrt_coe, if_neg (not_lt.mpr hr), ← EReal.coe_mul, EReal.coe_lt_coe_iff, EReal.coe_lt_coe_iff,
      Real.lt_sqrt hb, sq]

/-- The pattern of a quarter denotes `1 / 4`. -/
theorem quarter : Ideal.ofBits .f32 0x3E800000#32 = ((1 / 4 : ℝ) : EReal) := by
  simp [Ideal.ofBits, Ideal.ieee, -EReal.coe_mul]; norm_num

/-- Each boundary is a real number and isn't negative. -/
theorem boundary (k : Fin 32) : ∃ b : ℝ, 0 ≤ b ∧ val_main_v8 (F := Ideal) (ix1 k) = (b : EReal) := by
  refine ⟨(1 + (k.val : ℝ)) * (1 / 4), by positivity, ?_⟩
  pointwise [val_main_v8, val_main_v7, val_main_v6, val_main_v5, val_main_v4, val_main_cst, val_main_cst_0]
  rw [quarter, show FloatOps.sitofp (F := Ideal) .f32 (BitVec.ofNat 32 k.val) = (((BitVec.ofNat 32 k.val).toInt : ℝ) : EReal) from rfl,
    show (BitVec.ofNat 32 k.val).toInt = (k.val : ℤ) by revert k; decide, EReal.coe_mul, EReal.coe_add]
  simp

variable (x1 : FVec Ideal S10000x3 .f32) (x6 : IVec S2x160000 32) (x7 : IVec S160000x2 32)

/-- The squared length of an edge isn't negative. -/
theorem length1_nonneg (e : Fin 160000) : 0 ≤ val_main_call2_v1 (F := Ideal) x1 x6 (ix1 e) := by
  pointwise [val_main_call2_v1, val_main_call2_v0, val_main_call2_cst]
  exact Finset.sum_nonneg fun k _ => square_nonneg _

/-- The squared distance to an intermediate node isn't negative. -/
theorem length2_nonneg (e : Fin 160000) (i : Fin 2) : 0 ≤ val_main_call3_v1 (F := Ideal) x1 x6 x7 (ix2 e i) := by
  pointwise [val_main_call3_v1, val_main_call3_v0, val_main_call3_cst]
  exact Finset.sum_nonneg fun k _ => square_nonneg _

/-- A boundary's square lies below a squared distance exactly when the boundary lies below the distance. -/
theorem boundary_square_lt (k : Fin 32) (s : EReal) (hs : 0 ≤ s) :
    val_main_v8 (F := Ideal) (ix1 k) * val_main_v8 (F := Ideal) (ix1 k) < s ↔ val_main_v8 (F := Ideal) (ix1 k) < Ideal.sqrt s := by
  obtain ⟨b, hb, h⟩ := boundary k
  rw [h]
  exact square_lt b hb s hs

/-- The kernel's comparisons for the edges are the reference's. -/
theorem compared1 : cmpf (F := Ideal) (φ := .f32) .ogt
      (broadcastInDim S160000x32 ![0, 1] bcast_S160000x1_S160000x32_0_1
        (broadcastInDim S160000x1 ![0] bcast_S160000_S160000x1_0 (val_main_call2_v1 (F := Ideal) x1 x6)))
      (broadcastInDim S160000x32 ![0, 1] bcast_S1x32_S160000x32_0_1
        (broadcastInDim S1x32 ![1] bcast_S32_S1x32_1 (mulf (F := Ideal) (s := S32) (φ := .f32) (val_main_v8 (F := Ideal)) (val_main_v8 (F := Ideal)))))
    = val_main_v71 (F := Ideal) x1 x6 := by
  funext j
  idx_vars j
  pointwise [val_main_v71, val_main_v70, val_main_v69, val_main_v68, val_main_v67, val_main_v48]
  simp only [boundary_square_lt j1 _ (length1_nonneg x1 x6 j0)]

/-- The bins of the edges in the kernel are the reference's. -/
theorem bins1 {V : Valuation τ sig (Elt Ideal)} (h : left V main_v54 = val_main_v71 (F := Ideal) x1 x6) :
    left V main_v56 = val_main_v73 (F := Ideal) x1 x6 := by
  rw [Host.bins1, h]
  rfl

/-- The intermediate nodes' bins in the kernel are the reference's, two to an edge. -/
theorem bins2 (e : Fin 160000) (i : Fin 2) : Host.reduce IntOp.addi (extui 32 (cmpf (F := Ideal) (φ := .f32) .ogt
      (broadcastInDim S160000x2x32 ![0, 1, 2] bcast_S160000x2x1_S160000x2x32_0_1_2
        (broadcastInDim S160000x2x1 ![0, 1] bcast_S160000x2_S160000x2x1_0_1 (val_main_call3_v1 (F := Ideal) x1 x6 x7)))
      (broadcastInDim S160000x2x32 ![0, 1, 2] bcast_S1x1x32_S160000x2x32_0_1_2
        (broadcastInDim S1x1x32 ![2] bcast_S32_S1x1x32_2 (mulf (F := Ideal) (s := S32) (φ := .f32) (val_main_v8 (F := Ideal)) (val_main_v8 (F := Ideal))))))
      natLt_1_32) (constantI S_ 32 0#32) reducesTo_S160000x2x32_S160000x2_d2 h_S_ (ix2 e i)
    = val_main_v83 (F := Ideal) x1 x6 x7 (ix1 ⟨e.val * 2 + i.val, by omega⟩) := by
  pointwise [val_main_v83, val_main_v82, val_main_c_21, val_main_v81, val_main_v80, val_main_v79, val_main_v78, val_main_v77, val_main_v76, val_main_v66]
  have h0 : (e.val * 2 + i.val) / 2 = e.val := by omega
  have h1 : (e.val * 2 + i.val) % 2 = i.val := by omega
  simp only [h0, h1, Fin.eta]
  refine Finset.fold_congr fun k _ => ?_
  simp only [boundary_square_lt k _ (length2_nonneg x1 x6 x7 e i)]

/-- A sum of 32 bits is at most 32. -/
theorem fold_bits (f : Fin 32 → BitVec 1) (s : Finset (Fin 32)) :
    ∃ r : ℕ, r ≤ s.card ∧ s.fold IntOp.addi (0#32) (fun k => (f k).setWidth 32) = BitVec.ofNat 32 r := by
  induction s using Finset.induction_on with
  | empty => exact ⟨0, le_refl _, rfl⟩
  | insert a s ha ih =>
    obtain ⟨r, hr, h⟩ := ih
    refine ⟨(f a).toNat + r, ?_, ?_⟩
    · rw [Finset.card_insert_of_notMem ha]
      have := (f a).isLt
      omega
    · rw [Finset.fold_insert ha, h, BitVec.ofNat_add]
      rw [show (f a).setWidth 32 = BitVec.ofNat 32 (f a).toNat from BitVec.eq_of_toNat_eq (by simp)]
      rfl

/-- A bin is one of the table's 33 rows. -/
theorem bin1 (e : Fin 160000) : ∃ r : Fin 33, val_main_v73 (F := Ideal) x1 x6 (ix1 e) = BitVec.ofNat 32 r.val := by
  pointwise [val_main_v73, val_main_v72, val_main_c_20]
  obtain ⟨r, hr, h⟩ := fold_bits (fun k => val_main_v71 (F := Ideal) x1 x6 (ix2 e k)) Finset.univ
  exact ⟨⟨r, Nat.lt_succ_of_le hr⟩, h⟩

/-- An intermediate node's bin is one of the table's 33 rows. -/
theorem bin2 (e : Fin 320000) : ∃ r : Fin 33, val_main_v83 (F := Ideal) x1 x6 x7 (ix1 e) = BitVec.ofNat 32 r.val := by
  pointwise [val_main_v83, val_main_v82, val_main_c_21]
  obtain ⟨r, hr, h⟩ := fold_bits (fun k => val_main_v81 (F := Ideal) x1 x6 x7 (ix2 e k)) Finset.univ
  exact ⟨⟨r, Nat.lt_succ_of_le hr⟩, h⟩

end Cert.Proof.Bins
end
-- ==== Proof.Start.lean ====
/- What the host line between the two calls starts from: the arguments as launched, the two rows of the edge list, and the
   table of embedded distances that the first call left. -/
module

public import proofs.«01_k».proof.Proof.Table
public import proofs.«01_k».proof.Proof.Host

@[expose] public section

set_option maxRecDepth 16384

noncomputable section

namespace Cert.Proof.Start

open Idealize.ShloMosaic Idealize.ShloMosaic.TcCoe Idealize.SL.Sem Idealize.ShloMosaic.StableHlo
open Cert.KernelIdeal Cert.KernelIdeal.Gen
open Cert.Proof.Ssa
open Cert.ReferenceIdeal.Read

variable (m : (ℓ : Loc nD τ sig) → Buf (Elt Ideal) ℓ) (ρ : Dev nD → PrngReg) (c : Dev nD)

/-- Argument `r` of the launch. -/
abbrev arg (r : Ref sig .tc) : Buf (Elt Ideal) ((c : Thread nD τ).loc r) := m ((c : Thread nD τ).loc r)

/-- The arguments stand unchanged at the line's end. -/
theorem args_left (r : Ref sig .tc) (hr : r ∈ argRefs) : left (W3 m ρ c) r = arg m c r := W4_args m ρ c r hr

/-- An array that only the first host line writes stands at the later line's end as that line left it. -/
theorem kept (r : Ref sig .tc) (h4 : r ∉ hostOps1_W) (h3 : ∀ w, Pipeline.arrRef spec0 w ≠ r) (h2 : r ∉ hostOps0_1_W) :
    left (W3 m ρ c) r = W1 m ρ c (Proc.devRef .tc r) :=
  (W4_of m ρ c r h4).trans ((W3_of_ne m ρ c r h3).trans (W2_of m ρ c r h2))

/-- The edges' sources: the edge list's first row. -/
theorem sources : left (W3 m ρ c) main_v1 = val_main_v1 (F := Ideal) (arg m c main_arg6) := by
  rw [kept m ρ c main_v1 (by decide +kernel) (by decide +kernel) (by decide +kernel)]
  after_reads_simp
  rfl

/-- The edges' destinations: its second row. -/
theorem destinations : left (W3 m ρ c) main_v3 = val_main_v3 (F := Ideal) (arg m c main_arg6) := by
  rw [kept m ρ c main_v3 (by decide +kernel) (by decide +kernel) (by decide +kernel)]
  after_reads_simp
  rfl

/-- The padded embedding table that the first call reads. -/
theorem padded : W2 m ρ c (Proc.devRef .tc main_v4)
    = pad S40x16 ![0, 0] ![7, 0] ![0, 0] (arg m c main_arg2) (sitofp (F := Ideal) .f32 (constantI S_ 32 0#32))
      pads_S33x16_S40x16_070_000 h_S_ := by
  show after hostOps0_1 (after hostOps0 (W0 m ρ c)) _ = _
  after_reads_simp
  rfl

/-- The table of embedded distances that the line reads. -/
theorem table : left (W3 m ρ c) main_v5 = Table.product
    (pad S40x16 ![0, 0] ![7, 0] ![0, 0] (arg m c main_arg2) (sitofp (F := Ideal) .f32 (constantI S_ 32 0#32))
      pads_S33x16_S40x16_070_000 h_S_) (arg m c main_arg3) := by
  rw [← padded m ρ c]
  exact (W4_of m ρ c main_v5 (by decide +kernel)).trans ((W3_arr m ρ c 2).trans ((Table.final (V2 m ρ) c).trans
    (congrArg (Table.product (W2 m ρ c (Proc.devRef .tc main_v4))) (W2_args m ρ c main_arg3 (by decide)))))

end Cert.Proof.Start

end
-- ==== Proof.Rows.lean ====
module
public import proofs.«01_k».proof.Proof.Bins
public import proofs.«01_k».proof.Proof.Start
@[expose] public section
set_option maxRecDepth 16384
noncomputable section

/-!
# The table rows

The kernel multiplies the whole table by the weights and looks rows up in the product; the
reference looks rows up in the table and multiplies them. A bin's row is the same.
-/

namespace Cert.Proof.Rows
open Idealize.ShloMosaic Idealize.ShloMosaic.TcCoe Idealize.SL.Sem Idealize.ShloMosaic.StableHlo
open Cert.KernelIdeal Cert.KernelIdeal.Gen
open Cert.ReferenceIdeal.Read
open Cert.Proof.Ssa

/-- A row of the product table, looked up by an edge's word. -/
theorem gather_product1 {α : Type} (x : S40x128.Idx → α) (idx : IVec S160000x1 32) (e : Fin 160000) (k : Fin 128) :
    Host.gather gather_S40x128_S160000x1_S160000x128_1_0_n_n_0_1_1128 x idx (ix2 e k)
      = x (ix2 ⟨min (idx (ix2 e (0 : Fin 1))).toInt.toNat 39, by omega⟩ k) := by
  unfold Host.gather
  refine congrArg x (funext fun a => Fin.ext ?_)
  match a with
  | ⟨0, _⟩ =>
    have hi : GatherDims.siIdx gather_S40x128_S160000x1_S160000x128_1_0_n_n_0_1_1128 (ix2 e k) ⟨0, by decide⟩ = ix2 e (0 : Fin 1) := by
      funext b
      match b with
      | ⟨0, _⟩ => rfl
      | ⟨1, _⟩ => rfl
    exact congrArg (fun v => min (BitVec.toInt (idx v)).toNat 39) hi
  | ⟨1, _⟩ => exact Nat.zero_add k.val

/-- A row of the product table, looked up by an intermediate node's word. -/
theorem gather_product2 {α : Type} (x : S40x128.Idx → α) (idx : IVec S160000x2x1 32) (e : Fin 160000) (i : Fin 2) (k : Fin 128) :
    Host.gather gather_S40x128_S160000x2x1_S160000x2x128_2_0_n_n_0_2_1128 x idx (ix3 e i k)
      = x (ix2 ⟨min (idx (ix3 e i (0 : Fin 1))).toInt.toNat 39, by omega⟩ k) := by
  unfold Host.gather
  refine congrArg x (funext fun a => Fin.ext ?_)
  match a with
  | ⟨0, _⟩ =>
    have hi : GatherDims.siIdx gather_S40x128_S160000x2x1_S160000x2x128_2_0_n_n_0_2_1128 (ix3 e i k) ⟨0, by decide⟩ = ix3 e i (0 : Fin 1) := by
      funext b
      match b with
      | ⟨0, _⟩ => rfl
      | ⟨1, _⟩ => rfl
      | ⟨2, _⟩ => rfl
    exact congrArg (fun v => min (BitVec.toInt (idx v)).toNat 39) hi
  | ⟨1, _⟩ => exact Nat.zero_add k.val

/-- A row of the table, looked up by an edge's word. -/
theorem gather_table1 {α : Type} (x : S33x16.Idx → α) (idx : IVec S160000x1 32) (e : Fin 160000) (q : Fin 16) :
    Host.gather Cert.ReferenceIdeal.gather_S33x16_S160000x1_S160000x16_1_0_n_n_0_1_116 x idx (ix2 e q)
      = x (ix2 ⟨min (idx (ix2 e (0 : Fin 1))).toInt.toNat 32, by omega⟩ q) := by
  unfold Host.gather
  refine congrArg x (funext fun a => Fin.ext ?_)
  match a with
  | ⟨0, _⟩ =>
    have hi : GatherDims.siIdx Cert.ReferenceIdeal.gather_S33x16_S160000x1_S160000x16_1_0_n_n_0_1_116 (ix2 e q) ⟨0, by decide⟩ = ix2 e (0 : Fin 1) := by
      funext b
      match b with
      | ⟨0, _⟩ => rfl
      | ⟨1, _⟩ => rfl
    exact congrArg (fun v => min (BitVec.toInt (idx v)).toNat 32) hi
  | ⟨1, _⟩ => exact Nat.zero_add q.val

/-- A row of the table, looked up by an intermediate node's word. -/
theorem gather_table2 {α : Type} (x : S33x16.Idx → α) (idx : IVec Cert.ReferenceIdeal.S320000x1 32) (e : Fin 320000) (q : Fin 16) :
    Host.gather Cert.ReferenceIdeal.gather_S33x16_S320000x1_S320000x16_1_0_n_n_0_1_116 x idx (ix2 e q)
      = x (ix2 ⟨min (idx (ix2 e (0 : Fin 1))).toInt.toNat 32, by omega⟩ q) := by
  unfold Host.gather
  refine congrArg x (funext fun a => Fin.ext ?_)
  match a with
  | ⟨0, _⟩ =>
    have hi : GatherDims.siIdx Cert.ReferenceIdeal.gather_S33x16_S320000x1_S320000x16_1_0_n_n_0_1_116 (ix2 e q) ⟨0, by decide⟩ = ix2 e (0 : Fin 1) := by
      funext b
      match b with
      | ⟨0, _⟩ => rfl
      | ⟨1, _⟩ => rfl
    exact congrArg (fun v => min (BitVec.toInt (idx v)).toNat 32) hi
  | ⟨1, _⟩ => exact Nat.zero_add q.val

/-- A bin's word isn't negative, and wrapping leaves it. -/
theorem wrap (r : Fin 33) (a : BitVec 32) :
    Scalar.select (IntOp.cmpi .slt (BitVec.ofNat 32 r.val) 0#32) a (BitVec.ofNat 32 r.val) = BitVec.ofNat 32 r.val := by
  have h : IntOp.cmpi .slt (BitVec.ofNat 32 r.val) 0#32 = 0#1 := by revert r; decide
  rw [h]
  rfl

/-- Read as a row number, a bin's word is the bin, also after clamping. -/
theorem row (r : Fin 33) (n : ℕ) (hn : 32 ≤ n) : min (BitVec.ofNat 32 r.val).toInt.toNat n = r.val := by
  have h : (BitVec.ofNat 32 r.val).toInt.toNat = r.val := by revert r; decide
  rw [h]
  omega

/-- A bin's word passes the lookup's range test. -/
theorem in_range (r : Fin 33) :
    IntOp.andi (IntOp.cmpi .sge (BitVec.ofNat 32 r.val) 0#32) (IntOp.cmpi .sle (BitVec.ofNat 32 r.val) 32#32) = 1#1 := by
  revert r; decide

variable (x1 : FVec Ideal S10000x3 .f32) (x2 : FVec Ideal S33x16 .f32) (x3 : FVec Ideal S16x128 .f32)
  (x6 : IVec S2x160000 32) (x7 : IVec S160000x2 32)

/-- The padded table times the weights, at one of the table's own rows. -/
theorem product_row (r : Fin 33) (k : Fin 128) :
    Table.product (pad S40x16 ![0, 0] ![7, 0] ![0, 0] x2 (sitofp (F := Ideal) .f32 (constantI S_ 32 0#32))
      pads_S33x16_S40x16_070_000 h_S_) x3 (ix2 ⟨r.val, by omega⟩ k) = ∑ q : Fin 16, x2 (ix2 r q) * x3 (ix2 q k) := by
  pointwise [Table.product]

/-- The reference's lookup for an edge. -/
theorem taken1 (e : Fin 160000) (q : Fin 16) (r : Fin 33) (h : val_main_v73 (F := Ideal) x1 x6 (ix1 e) = BitVec.ofNat 32 r.val) :
    val_main_v74 (F := Ideal) x1 x2 x6 (ix2 e q) = x2 (ix2 r q) := by
  have hc : val_main_call4_v5 (F := Ideal) x1 x6 (ix2 e (0 : Fin 1)) = BitVec.ofNat 32 r.val := by
    pointwise [val_main_call4_v5, val_main_call4_v4, val_main_call4_v1, val_main_call4_v0, val_main_call4_c]
    rw [h, wrap]
  pointwise [val_main_v74, val_main_call4_v14, val_main_call4_v12, val_main_call4_v11, val_main_call4_v7, val_main_call4_v10,
    val_main_call4_v6, val_main_call4_c_2, val_main_call4_v9, val_main_call4_v8, val_main_call4_c_1, val_main_call4_c_3, val_main_call4_v13]
  rw [Finset.univ_unique, Finset.fold_singleton]
  have hd : (default : Fin 1) = 0 := rfl
  rw [hd, hc, in_range, gather_table1]
  refine congrArg x2 (congrArg (fun a : Fin 33 => ix2 a q) (Fin.ext ?_))
  exact (congrArg (fun w : BitVec 32 => min w.toInt.toNat 32) hc).trans (row r 32 (le_refl _))

/-- The reference's lookup for an intermediate node. -/
theorem taken2 (e : Fin 320000) (q : Fin 16) (r : Fin 33) (h : val_main_v83 (F := Ideal) x1 x6 x7 (ix1 e) = BitVec.ofNat 32 r.val) :
    val_main_v84 (F := Ideal) x1 x2 x6 x7 (ix2 e q) = x2 (ix2 r q) := by
  have hc : val_main_call5_v5 (F := Ideal) x1 x6 x7 (ix2 e (0 : Fin 1)) = BitVec.ofNat 32 r.val := by
    pointwise [val_main_call5_v5, val_main_call5_v4, val_main_call5_v1, val_main_call5_v0, val_main_call5_c]
    rw [h, wrap]
  pointwise [val_main_v84, val_main_call5_v14, val_main_call5_v12, val_main_call5_v11, val_main_call5_v7, val_main_call5_v10,
    val_main_call5_v6, val_main_call5_c_2, val_main_call5_v9, val_main_call5_v8, val_main_call5_c_1, val_main_call5_c_3, val_main_call5_v13]
  rw [Finset.univ_unique, Finset.fold_singleton]
  have hd : (default : Fin 1) = 0 := rfl
  rw [hd, hc, in_range, gather_table2]
  refine congrArg x2 (congrArg (fun a : Fin 33 => ix2 a q) (Fin.ext ?_))
  exact (congrArg (fun w : BitVec 32 => min w.toInt.toNat 32) hc).trans (row r 32 (le_refl _))

/-- The reference's embedding of an edge's bin. -/
theorem embedded1 (e : Fin 160000) (k : Fin 128) (r : Fin 33) (h : val_main_v73 (F := Ideal) x1 x6 (ix1 e) = BitVec.ofNat 32 r.val) :
    val_main_v75 (F := Ideal) x1 x2 x3 x6 (ix2 e k) = ∑ q : Fin 16, x2 (ix2 r q) * x3 (ix2 q k) := by
  pointwise [val_main_v75]
  exact Finset.sum_congr rfl fun q _ => by rw [taken1 x1 x2 x6 e q r h]

/-- The reference's embedding of an intermediate node's bin. -/
theorem embedded2 (e : Fin 320000) (k : Fin 128) (r : Fin 33) (h : val_main_v83 (F := Ideal) x1 x6 x7 (ix1 e) = BitVec.ofNat 32 r.val) :
    val_main_v85 (F := Ideal) x1 x2 x3 x6 x7 (ix2 e k) = ∑ q : Fin 16, x2 (ix2 r q) * x3 (ix2 q k) := by
  pointwise [val_main_v85]
  exact Finset.sum_congr rfl fun q _ => by rw [taken2 x1 x2 x6 x7 e q r h]

/-- The kernel's lookup of an edge's row in the product, for the reference's bins: the reference's embedding. -/
theorem looked_up1 : Host.gather gather_S40x128_S160000x1_S160000x128_1_0_n_n_0_1_1128
      (Table.product (pad S40x16 ![0, 0] ![7, 0] ![0, 0] x2 (sitofp (F := Ideal) .f32 (constantI S_ 32 0#32))
        pads_S33x16_S40x16_070_000 h_S_) x3)
      (broadcastInDim S160000x1 ![0] bcast_S160000_S160000x1_0
        (select (cmpi .slt (val_main_v73 (F := Ideal) x1 x6) (broadcastInDim S160000 ![] bcast_S_S160000 (constantI S_ 32 0#32)))
          (addi (val_main_v73 (F := Ideal) x1 x6) (broadcastInDim S160000 ![] bcast_S_S160000 (constantI S_ 32 40#32)))
          (val_main_v73 (F := Ideal) x1 x6)))
    = val_main_v75 (F := Ideal) x1 x2 x3 x6 := by
  funext j
  idx_vars j
  obtain ⟨r, h⟩ := Bins.bin1 x1 x6 j0
  rw [embedded1 x1 x2 x3 x6 j0 j1 r h, gather_product1, ← product_row]
  refine congrArg (Table.product _ x3) (congrArg (fun a : Fin 40 => ix2 a j1) (Fin.ext ?_))
  pointwise
  rw [h, wrap, row r 39 (by norm_num)]

/-- The kernel's lookup of an intermediate node's row in the product, for words that are the reference's bins: the reference's embedding. -/
theorem looked_up2 (b : IVec S160000x2 32)
    (hb : ∀ (e : Fin 160000) (i : Fin 2), b (ix2 e i) = val_main_v83 (F := Ideal) x1 x6 x7 (ix1 ⟨e.val * 2 + i.val, by omega⟩)) :
    Host.gather gather_S40x128_S160000x2x1_S160000x2x128_2_0_n_n_0_2_1128
      (Table.product (pad S40x16 ![0, 0] ![7, 0] ![0, 0] x2 (sitofp (F := Ideal) .f32 (constantI S_ 32 0#32))
        pads_S33x16_S40x16_070_000 h_S_) x3)
      (broadcastInDim S160000x2x1 ![0, 1] bcast_S160000x2_S160000x2x1_0_1
        (select (cmpi .slt b (broadcastInDim S160000x2 ![] bcast_S_S160000x2 (constantI S_ 32 0#32)))
          (addi b (broadcastInDim S160000x2 ![] bcast_S_S160000x2 (constantI S_ 32 40#32))) b))
    = val_main_v86 (F := Ideal) x1 x2 x3 x6 x7 := by
  funext j
  idx_vars j
  obtain ⟨r, h⟩ := Bins.bin2 x1 x6 x7 ⟨j0.val * 2 + j1.val, by omega⟩
  have hv : val_main_v86 (F := Ideal) x1 x2 x3 x6 x7 (ix3 j0 j1 j2)
      = val_main_v85 (F := Ideal) x1 x2 x3 x6 x7 (ix2 ⟨j0.val * 2 + j1.val, by omega⟩ j2) := by
    pointwise [val_main_v86]
  rw [hv, embedded2 x1 x2 x3 x6 x7 _ j2 r h, gather_product2, ← product_row]
  refine congrArg (Table.product _ x3) (congrArg (fun a : Fin 40 => ix2 a j2) (Fin.ext ?_))
  pointwise
  rw [hb, h, wrap, row r 39 (by norm_num)]

end Cert.Proof.Rows
end
-- ==== Proof.Finite.lean ====
module
public import proofs.«01_k».proof.Proof.Rows
public import proofs.«01_k».proof.Proof.Gen.Pre_finite
public import Idealize.ShloMosaic.Lib.ReduceAll
@[expose] public section
set_option maxRecDepth 16384
noncomputable section

/-!
# What the precondition gives

Every feature, table entry and weight is a real number, and so is everything the messages are made of.
-/

namespace Cert.Proof.Finite
open Idealize.ShloMosaic Idealize.ShloMosaic.TcCoe Idealize.SL.Sem Idealize.ShloMosaic.StableHlo
open Cert.KernelIdeal Cert.KernelIdeal.Gen
open Cert.ReferenceIdeal.Read

/-- An extended real that is a real number. -/
def IsReal (x : EReal) : Prop := ∃ r : ℝ, x = (r : EReal)

/-- A product of real numbers is real. -/
theorem isReal_mul {x y : EReal} (hx : IsReal x) (hy : IsReal y) : IsReal (x * y) := by
  obtain ⟨r, rfl⟩ := hx
  obtain ⟨s, rfl⟩ := hy
  exact ⟨r * s, (EReal.coe_mul r s).symm⟩

/-- A sum of real numbers is real. -/
theorem isReal_sum {ι : Type} (s : Finset ι) (f : ι → EReal) (h : ∀ i, IsReal (f i)) : IsReal (∑ i ∈ s, f i) := by
  classical
  induction s using Finset.induction_on with
  | empty => exact ⟨0, by simp⟩
  | insert a s ha ih =>
    obtain ⟨r, hr⟩ := h a
    obtain ⟨t, ht⟩ := ih
    exact ⟨r + t, by rw [Finset.sum_insert ha, hr, ht, EReal.coe_add]⟩

/-- The pattern of positive infinity denotes `⊤`. -/
theorem infinity : Ideal.ofBits .f32 0x7F800000#32 = ⊤ := by
  simp [Ideal.ofBits, Ideal.ieee]

/-- A value whose size is below infinity is a real number. -/
theorem isReal_of_abs_lt (x : EReal) (h : BitVec.ofBool (decide (max x (-x) < ⊤)) = 1#1) : IsReal x := by
  induction x with
  | bot => simp at h
  | top => simp at h
  | coe r => exact ⟨r, rfl⟩

variable {x0 : FVec Ideal S10000x128 .f32} {x1 : FVec Ideal S10000x3 .f32} {x2 : FVec Ideal S33x16 .f32} {x3 : FVec Ideal S16x128 .f32}
  {x4 : FVec Ideal S256x128 .f32} {x5 : FVec Ideal S128 .f32} {x6 : IVec S2x160000 32} {x7 : IVec S160000x2 32}

/-- The precondition on the arrays themselves. -/
abbrev Pre (x0 : FVec Ideal S10000x128 .f32) (x1 : FVec Ideal S10000x3 .f32) (x2 : FVec Ideal S33x16 .f32) (x3 : FVec Ideal S16x128 .f32)
    (x4 : FVec Ideal S256x128 .f32) (x5 : FVec Ideal S128 .f32) (x6 : IVec S2x160000 32) (x7 : IVec S160000x2 32) : Prop :=
  Cert.Pre_finite.fn (F := Ideal) x0 x1 x2 x3 x4 x5 x6 x7 = fun _ => 1#1

/-- The features, the table and both weight matrices hold real numbers. -/
theorem entries (h : Pre x0 x1 x2 x3 x4 x5 x6 x7) :
    (∀ j, IsReal (x0 j)) ∧ (∀ j, IsReal (x2 j)) ∧ (∀ j, IsReal (x3 j)) ∧ ∀ j, IsReal (x4 j) := by
  have h0 := congrFun h ix0
  unfold Cert.Pre_finite.fn Cert.Pre_finite.fn_part1 at h0
  obtain ⟨h012, h3⟩ := IntOp.andi_eq_one.1 h0
  obtain ⟨h01, h2⟩ := IntOp.andi_eq_one.1 h012
  obtain ⟨hA, hB⟩ := IntOp.andi_eq_one.1 h01
  haveI : Subsingleton Cert.Pre_finite.S_.Idx := ⟨fun a b => funext fun k => k.elim0⟩
  refine ⟨fun j => ?_, fun j => ?_, fun j => ?_, fun j => ?_⟩
  · have h := Host.reduce_andi_all _ _ _ _ _ hA j
    refine isReal_of_abs_lt _ ?_
    rw [← infinity]
    exact h
  · have h := Host.reduce_andi_all _ _ _ _ _ hB j
    refine isReal_of_abs_lt _ ?_
    rw [← infinity]
    exact h
  · have h := Host.reduce_andi_all _ _ _ _ _ h2 j
    refine isReal_of_abs_lt _ ?_
    rw [← infinity]
    exact h
  · have h := Host.reduce_andi_all _ _ _ _ _ h3 j
    refine isReal_of_abs_lt _ ?_
    rw [← infinity]
    exact h

/-- The edges' embeddings are real. -/
theorem embedded1 (h2 : ∀ j, IsReal (x2 j)) (h3 : ∀ j, IsReal (x3 j)) (e : Fin 160000) (k : Fin 128) :
    IsReal (val_main_v75 (F := Ideal) x1 x2 x3 x6 (ix2 e k)) := by
  obtain ⟨r, h⟩ := Bins.bin1 x1 x6 e
  rw [Rows.embedded1 x1 x2 x3 x6 e k r h]
  exact isReal_sum _ _ fun q => isReal_mul (h2 _) (h3 _)

/-- The source features are real. -/
theorem features (h0 : ∀ j, IsReal (x0 j)) (e : Fin 160000) (k : Fin 128) : IsReal (val_main_v104 (F := Ideal) x0 x6 (ix2 e k)) := h0 _

/-- The intermediate nodes' sums are real. -/
theorem sums (h0 : ∀ j, IsReal (x0 j)) (h2 : ∀ j, IsReal (x2 j)) (h3 : ∀ j, IsReal (x3 j)) (e : Fin 160000) (k : Fin 128) :
    IsReal (val_main_v95 (F := Ideal) x0 x1 x2 x3 x6 x7 (ix2 e k)) := by
  have hf : ∀ i : Fin 2, IsReal (val_main_v93 (F := Ideal) x0 x7 (ix3 e i k)) := fun i => h0 _
  have he : ∀ (e : Fin 320000), IsReal (val_main_v85 (F := Ideal) x1 x2 x3 x6 x7 (ix2 e k)) := fun e => by
    obtain ⟨r, h⟩ := Bins.bin2 x1 x6 x7 e
    rw [Rows.embedded2 x1 x2 x3 x6 x7 e k r h]
    exact isReal_sum _ _ fun q => isReal_mul (h2 _) (h3 _)
  pointwise [val_main_v95, val_main_v94, val_main_v86, val_main_cst_24]
  exact isReal_sum _ _ fun i => isReal_mul (he _) (hf i)

end Cert.Proof.Finite
end
-- ==== Proof.Algebra.lean ====
module
public import Idealize.ShloMosaic.Lib.Pointwise
@[expose] public section
noncomputable section

/-!
# The equation

The kernel sums the edges' messages first and applies the linear map once per node; the reference
applies it to every edge. For finite messages and weights the results are equal, whatever the bias.
-/

namespace Cert.Proof.Algebra
open Idealize.ShloMosaic

/-- The pattern of two denotes `2`. -/
theorem two : Ideal.ofBits .f32 0x40000000#32 = ((2 : ℝ) : EReal) := by
  simp [Ideal.ofBits, Ideal.ieee, -EReal.coe_mul]; norm_num

/-- Half of a real number. -/
theorem half (x : ℝ) : Ideal.div (x : EReal) ((2 : ℝ) : EReal) = ((x / 2 : ℝ) : EReal) := by
  have h : ((2 : ℝ) : EReal) ≠ 0 := by exact_mod_cast (two_ne_zero : (2 : ℝ) ≠ 0)
  rw [Ideal.div, if_neg h, ← EReal.coe_inv, ← EReal.coe_mul, div_eq_mul_inv]

/-- A sum of reals is the same sum among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {ι κ : Type} [Fintype κ]

/-- A sum over a nonempty set of values that are all the same infinity. -/
theorem sum_same (s : Finset ι) (hs : s.Nonempty) (v : EReal) (hv : v + v = v) : ∑ _e ∈ s, v = v := by
  classical
  induction hs using Finset.Nonempty.cons_induction with
  | singleton a => simp
  | cons a s ha hs ih => rw [Finset.sum_cons, ih, hv]

/-- Real terms with positive coefficients and one bias: summing the coefficients first changes nothing. -/
theorem bias (H : Finset ι) (R : ℝ) (hR : 0 < R) (c p : ι → ℝ) (hc : ∀ e, 0 < c e) (b : EReal) :
    (R : EReal) * (((∑ e ∈ H, c e * p e : ℝ) : EReal) + ((∑ e ∈ H, c e : ℝ) : EReal) * b)
      = ∑ e ∈ H, ((R * c e : ℝ) : EReal) * ((p e : EReal) + b) := by
  have hRc : ∀ e, 0 < R * c e := fun e => mul_pos hR (hc e)
  rcases H.eq_empty_or_nonempty with rfl | hH
  · simp
  have hw : 0 < ∑ e ∈ H, c e := Finset.sum_pos (fun e _ => hc e) hH
  induction b with
  | bot =>
    rw [EReal.coe_mul_bot_of_pos hw, EReal.add_bot, EReal.coe_mul_bot_of_pos hR]
    refine (sum_same H hH ⊥ rfl).symm.trans (Finset.sum_congr rfl fun e _ => ?_)
    rw [EReal.add_bot, EReal.coe_mul_bot_of_pos (hRc e)]
  | top =>
    rw [EReal.coe_mul_top_of_pos hw, EReal.coe_add_top, EReal.coe_mul_top_of_pos hR]
    refine (sum_same H hH ⊤ rfl).symm.trans (Finset.sum_congr rfl fun e _ => ?_)
    rw [EReal.coe_add_top, EReal.coe_mul_top_of_pos (hRc e)]
  | coe b =>
    simp only [← EReal.coe_mul, ← EReal.coe_add, ← coe_sum]
    refine congrArg _ ?_
    rw [Finset.sum_mul, ← Finset.sum_add_distrib, Finset.mul_sum]
    exact Finset.sum_congr rfl fun e _ => by ring

/-- The kernel's order of summation gives what the reference's gives. -/
theorem equation (H : Finset ι) (R : ℝ) (hR : 0 < R) (c : ι → ℝ) (hc : ∀ e, 0 < c e) (a f m : ι → κ → ℝ) (w1 w2 : κ → ℝ) (b : EReal) :
    (R : EReal) * ((∑ k, (∑ e ∈ H, ((c e : EReal) * (a e k : EReal)) * (f e k : EReal)) * (w1 k : EReal))
        + (∑ k, (∑ e ∈ H, Ideal.div (c e : EReal) ((2 : ℝ) : EReal) * (m e k : EReal)) * (w2 k : EReal))
        + (∑ e ∈ H, (c e : EReal)) * b)
      = ∑ e ∈ H, ((R : EReal) * (c e : EReal)) * (((∑ k, ((a e k : EReal) * (f e k : EReal)) * (w1 k : EReal))
        + ∑ k, Ideal.div (m e k : EReal) ((2 : ℝ) : EReal) * (w2 k : EReal)) + b) := by
  simp only [half, ← EReal.coe_mul, ← EReal.coe_add, ← coe_sum]
  rw [← bias H R hR c _ hc b]
  refine congrArg (fun v : ℝ => (R : EReal) * ((v : EReal) + _)) ?_
  simp only [Finset.sum_mul, mul_add, Finset.mul_sum, Finset.sum_add_distrib]
  congr 1
  · rw [Finset.sum_comm]
    exact Finset.sum_congr rfl fun e _ => Finset.sum_congr rfl fun k _ => by ring
  · rw [Finset.sum_comm]
    exact Finset.sum_congr rfl fun e _ => Finset.sum_congr rfl fun k _ => by ring

end Cert.Proof.Algebra
end
-- ==== Proof.Equation.lean ====
module
public import proofs.«01_k».proof.Proof.Combine
public import proofs.«01_k».proof.Proof.Degree
public import proofs.«01_k».proof.Proof.Finite
public import proofs.«01_k».proof.Proof.Algebra
@[expose] public section
set_option maxRecDepth 16384
noncomputable section

/-!
# The result

What the kernel leaves, written with the reference's stages, is the reference's result.
-/

namespace Cert.Proof.Equation
open Idealize.ShloMosaic Idealize.ShloMosaic.TcCoe Idealize.SL.Sem Idealize.ShloMosaic.StableHlo
open Cert.KernelIdeal Cert.KernelIdeal.Gen
open Cert.ReferenceIdeal.Read
open Cert.Proof.Scatter Cert.Proof.Finite

variable (x0 : FVec Ideal S10000x128 .f32) (x1 : FVec Ideal S10000x3 .f32) (x2 : FVec Ideal S33x16 .f32) (x3 : FVec Ideal S16x128 .f32)
  (x4 : FVec Ideal S256x128 .f32) (x5 : FVec Ideal S128 .f32) (x6 : IVec S2x160000 32) (x7 : IVec S160000x2 32)

/-- The edges' first message halves, summed at the nodes. -/
def first : FVec Ideal S10000x128 .f32 :=
  Host.scatterAdd (F := Ideal) (φ := .f32) scatter_S10000x128_S160000x1_S160000x128_1_0_0_1
    (broadcastInDim S10000x128 ![] bcast_S_S10000x128 (constant (F := Ideal) S_ .f32 0x00000000#32)) (val_main_v15 (F := Ideal) x6)
    (mulf (F := Ideal) (s := S160000x128) (φ := .f32) (mulf (F := Ideal) (s := S160000x128) (φ := .f32)
      (broadcastInDim S160000x128 ![0, 1] bcast_S160000x1_S160000x128_0_1
        (broadcastInDim S160000x1 ![0] bcast_S160000_S160000x1_0 (val_main_v121 (F := Ideal) x6)))
      (val_main_v75 (F := Ideal) x1 x2 x3 x6)) (val_main_v104 (F := Ideal) x0 x6))

/-- The edges' second message halves, summed at the nodes. -/
def second : FVec Ideal S10000x128 .f32 :=
  Host.scatterAdd (F := Ideal) (φ := .f32) scatter_S10000x128_S160000x1_S160000x128_1_0_0_1
    (broadcastInDim S10000x128 ![] bcast_S_S10000x128 (constant (F := Ideal) S_ .f32 0x00000000#32)) (val_main_v15 (F := Ideal) x6)
    (mulf (F := Ideal) (s := S160000x128) (φ := .f32) (broadcastInDim S160000x128 ![0, 1] bcast_S160000x1_S160000x128_0_1
      (broadcastInDim S160000x1 ![0] bcast_S160000_S160000x1_0 (Host.divf (F := Ideal) (s := S160000) (φ := .f32) (val_main_v121 (F := Ideal) x6)
        (broadcastInDim S160000 ![] bcast_S_S160000 (constant (F := Ideal) S_ .f32 0x40000000#32)))))
      (val_main_v95 (F := Ideal) x0 x1 x2 x3 x6 x7))

/-- The edges' coefficients, summed at the nodes. -/
def total : FVec Ideal S10000x1 .f32 :=
  broadcastInDim S10000x1 ![0] bcast_S10000_S10000x1_0
    (Host.scatterAdd (F := Ideal) (φ := .f32) scatter_S10000_S160000x1_S160000_n_0_0_1
      (broadcastInDim S10000 ![] bcast_S_S10000 (constant (F := Ideal) S_ .f32 0x00000000#32)) (val_main_v15 (F := Ideal) x6)
      (val_main_v121 (F := Ideal) x6))

/-- The kernel's result, from the arguments. -/
def kernel : FVec Ideal S10000x128 .f32 :=
  Combine.combine (first x0 x1 x2 x3 x6) (second x0 x1 x2 x3 x6 x7) (total x6)
    (broadcastInDim S10000x1 ![0] bcast_S10000_S10000x1_0 (val_main_v17 (F := Ideal) x6))
    (extractStridedSlice S128x128 ![0, 0] x4 slices_S256x128_S128x128_0_0)
    (extractStridedSlice S128x128 ![128, 0] x4 slices_S256x128_S128x128_128_0)
    (broadcastInDim S1x128 ![1] bcast_S128_S1x128_1 x5)

/-- A sum of first halves, entry by entry. -/
theorem first_at (n : Fin 10000) (k : Fin 128) : first x0 x1 x2 x3 x6 (ix2 n k)
    = ∑ e ∈ hits (val_main_v15 (F := Ideal) x6) n, (val_main_v121 (F := Ideal) x6 (ix1 e) * val_main_v75 (F := Ideal) x1 x2 x3 x6 (ix2 e k))
        * val_main_v104 (F := Ideal) x0 x6 (ix2 e k) := by
  unfold first
  rw [Scatter.sum2]
  pointwise

/-- A sum of second halves, entry by entry. -/
theorem second_at (n : Fin 10000) (k : Fin 128) : second x0 x1 x2 x3 x6 x7 (ix2 n k)
    = ∑ e ∈ hits (val_main_v15 (F := Ideal) x6) n, Ideal.div (val_main_v121 (F := Ideal) x6 (ix1 e)) ((2 : ℝ) : EReal)
        * val_main_v95 (F := Ideal) x0 x1 x2 x3 x6 x7 (ix2 e k) := by
  unfold second
  rw [Scatter.sum2, ← Algebra.two]
  pointwise

/-- A sum of coefficients, entry by entry. -/
theorem total_at (n : Fin 10000) : total x6 (ix2 n (0 : Fin 1)) = ∑ e ∈ hits (val_main_v15 (F := Ideal) x6) n, val_main_v121 (F := Ideal) x6 (ix1 e) := by
  unfold total
  pointwise
  rw [Scatter.sum1]
  pointwise

/-- The kernel's result, entry by entry. -/
theorem kernel_at (n : Fin 10000) (j : Fin 128) : kernel x0 x1 x2 x3 x4 x5 x6 x7 (ix2 n j)
    = Ideal.rsqrt (max (val_main_v17 (F := Ideal) x6 (ix1 n)) 1)
      * ((∑ k : Fin 128, first x0 x1 x2 x3 x6 (ix2 n k) * x4 (ix2 ⟨k.val, by omega⟩ j))
        + (∑ k : Fin 128, second x0 x1 x2 x3 x6 x7 (ix2 n k) * x4 (ix2 ⟨128 + k.val, by omega⟩ j))
        + total x6 (ix2 n (0 : Fin 1)) * x5 (ix1 j)) := by
  pointwise [kernel, Combine.combine]

/-- The reference's result, entry by entry: a sum over the edges that end at the node. -/
theorem reference_at (n : Fin 10000) (j : Fin 128) : val_main_v137 (F := Ideal) x0 x1 x2 x3 x4 x5 x6 x7 (ix2 n j)
    = ∑ e ∈ hits (val_main_v15 (F := Ideal) x6) n, (val_main_v29 (F := Ideal) x6 (ix1 n) * val_main_v121 (F := Ideal) x6 (ix1 e))
        * (((∑ k : Fin 128, (val_main_v75 (F := Ideal) x1 x2 x3 x6 (ix2 e k) * val_main_v104 (F := Ideal) x0 x6 (ix2 e k)) * x4 (ix2 ⟨k.val, by omega⟩ j))
          + ∑ k : Fin 128, Ideal.div (val_main_v95 (F := Ideal) x0 x1 x2 x3 x6 x7 (ix2 e k)) ((2 : ℝ) : EReal) * x4 (ix2 ⟨128 + k.val, by omega⟩ j))
          + x5 (ix1 j)) := by
  refine (Scatter.sum2 (val_main_v130 (F := Ideal)) (val_main_v136 (F := Ideal) x6) (val_main_v129 (F := Ideal) x0 x1 x2 x3 x4 x5 x6 x7) n j).trans ?_
  have hz : val_main_v130 (F := Ideal) (ix2 n j) = 0 := by pointwise [val_main_v130, val_main_cst_32]
  rw [hz, zero_add]
  refine Finset.sum_congr rfl fun e he => ?_
  have hg : val_main_v113 (F := Ideal) x6 (ix1 e) = val_main_v29 (F := Ideal) x6 (ix1 n) :=
    Scatter.gathered (val_main_v29 (F := Ideal) x6) (val_main_v112 (F := Ideal) x6) e n he
  rw [← hg, ← Algebra.two]
  pointwise [val_main_v129, val_main_v128, val_main_v127, val_main_v126, val_main_v125, val_main_v124, val_main_v123, val_main_v122, val_main_v114,
    val_main_v106, val_main_v105, val_main_v97, val_main_v96, val_main_cst_25]

/-- The kernel's result is the reference's. -/
theorem equal (h : Pre x0 x1 x2 x3 x4 x5 x6 x7) : kernel x0 x1 x2 x3 x4 x5 x6 x7 = val_main_v137 (F := Ideal) x0 x1 x2 x3 x4 x5 x6 x7 := by
  obtain ⟨h0, h2, h3, h4⟩ := entries h
  funext i
  idx_vars i
  rw [kernel_at, reference_at, Degree.kernel_scale_in, Degree.scale_in, total_at]
  simp only [first_at, second_at]
  choose c hc hce using Degree.coefficient_pos x6
  choose a ha using Finite.embedded1 (x1 := x1) (x6 := x6) h2 h3
  choose f hf using Finite.features (x6 := x6) h0
  choose p hp using Finite.sums (x1 := x1) (x6 := x6) (x7 := x7) h0 h2 h3
  choose w hw using h4
  simp only [hce, ha, hf, hp, hw]
  exact Algebra.equation (hits (val_main_v15 (F := Ideal) x6) i0) _ (Degree.scale_pos _) c hc a f p
    (fun k => w (ix2 ⟨k.val, by omega⟩ i1)) (fun k => w (ix2 ⟨128 + k.val, by omega⟩ i1)) (x5 (ix1 i1))

end Cert.Proof.Equation
end
-- ==== Proof.Result.lean ====
module
public import proofs.«01_k».proof.Proof.KernelRun
public import proofs.«01_k».proof.Proof.Equation
@[expose] public section
set_option maxRecDepth 16384
noncomputable section

/-!
# What the kernel leaves

The kernel's result array, read through both calls and the host line between them.
-/

namespace Cert.Proof.Result
open Idealize.ShloMosaic Idealize.ShloMosaic.TcCoe Idealize.SL.Sem Idealize.ShloMosaic.StableHlo
open Cert.KernelIdeal Cert.KernelIdeal.Gen
open Cert.ReferenceIdeal.Read
open Cert.Proof.Ssa Cert.Proof.Start

section Line

variable {V : Valuation τ sig (Elt Ideal)} {x0 : FVec Ideal S10000x128 .f32} {x1 : FVec Ideal S10000x3 .f32} {x2 : FVec Ideal S33x16 .f32}
  {x3 : FVec Ideal S16x128 .f32} {x4 : FVec Ideal S256x128 .f32} {x5 : FVec Ideal S128 .f32} {x6 : IVec S2x160000 32} {x7 : IVec S160000x2 32}

variable (hs : left V main_v1 = val_main_v1 (F := Ideal) x6) (hd : left V main_v3 = val_main_v3 (F := Ideal) x6)
  (h7 : left V main_arg7 = x7) (h0 : left V main_arg0 = x0) (h1 : left V main_arg1 = x1)
  (ht : left V main_v5 = Table.product (pad S40x16 ![0, 0] ![7, 0] ![0, 0] x2 (sitofp (F := Ideal) .f32 (constantI S_ 32 0#32))
    pads_S33x16_S40x16_070_000 h_S_) x3)

include hs in
/-- The nodes' scales by their out-degrees. -/
theorem scales : left V main_v26 = val_main_v32 (F := Ideal) x6 :=
  (Host.scale_src hs).trans (Degree.kernel_scale_out x6)

include hs hd h1 ht in
/-- The edges' embeddings. -/
theorem embeddings1 : left V main_v96 = val_main_v75 (F := Ideal) x1 x2 x3 x6 := by
  have hb : left V main_v56 = val_main_v73 (F := Ideal) x1 x6 :=
    Bins.bins1 x1 x6 ((Host.compared1 hs hd h1).trans (Bins.compared1 x1 x6))
  rw [Host.rows1, ht, hb]
  exact Rows.looked_up1 x1 x2 x3 x6

include hs h7 h1 ht in
/-- The intermediate nodes' embeddings. -/
theorem embeddings2 : left V main_v116 = val_main_v86 (F := Ideal) x1 x2 x3 x6 x7 := by
  rw [Host.rows2, ht]
  refine Rows.looked_up2 x1 x2 x3 x6 x7 (left V main_v81) fun e i => ?_
  rw [Host.bins2, Host.compared2 hs h7 h1]
  exact Bins.bins2 x1 x6 x7 e i

include hs hd h7 h0 h1 ht in
/-- What the second call computes from the host line's arrays. -/
theorem combined (h4 : left V main_arg4 = x4) (h5 : left V main_arg5 = x5) :
    Combine.combine (left V main_v135) (left V main_v143) (left V main_v152) (left V main_v153) (left V main_v154) (left V main_v155) (left V main_v156)
      = Equation.kernel x0 x1 x2 x3 x4 x5 x6 x7 := by
  have hc := scales hs
  have ht1 := embeddings1 hs hd h1 ht
  have ht2 := embeddings2 hs h7 h1 ht
  rw [Host.sum1 hd, Host.message1 hs h0 hc ht1, Host.sum2 hd, Host.message2 hs h7 h0 hc ht2, Host.sum3 hs hd hc, Host.degree_column hd,
    Host.weight1 h4, Host.weight2 h4, Host.bias h5]
  rfl

end Line

variable (m : (ℓ : Loc nD τ sig) → Buf (Elt Ideal) ℓ) (ρ : Dev nD → PrngReg) (c : Dev nD)

/-- The kernel's result array holds the reference's result of the kernel's arguments. -/
theorem value (h : Finite.Pre (arg m c main_arg0) (arg m c main_arg1) (arg m c main_arg2) (arg m c main_arg3) (arg m c main_arg4)
      (arg m c main_arg5) (arg m c main_arg6) (arg m c main_arg7)) :
    W5 m ρ c (Proc.devRef .tc main_v157) = val_main_v137 (F := Ideal) (arg m c main_arg0) (arg m c main_arg1) (arg m c main_arg2) (arg m c main_arg3)
      (arg m c main_arg4) (arg m c main_arg5) (arg m c main_arg6) (arg m c main_arg7) := by
  refine ((W5_arr m ρ c 7).trans (Combine.final (V4 m ρ) c)).trans ?_
  refine Eq.trans ?_ (Equation.equal _ _ _ _ _ _ _ _ h)
  exact combined (V := W3 m ρ c) (sources m ρ c) (destinations m ρ c) (args_left m ρ c main_arg7 (by decide)) (args_left m ρ c main_arg0 (by decide))
    (args_left m ρ c main_arg1 (by decide)) (table m ρ c) (args_left m ρ c main_arg4 (by decide)) (args_left m ρ c main_arg5 (by decide))

end Cert.Proof.Result
end
-- ==== Proof.lean ====
/- The claim of this certificate: the three frames, that the idealized program is the kernel's own, and that the idealized kernel
   and the reference leave equal results from equal arguments. The mathematics is in the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.ReferenceIdeal.Run
public import proofs.«01_k».proof.Proof.Gen.Pre_finite
public import proofs.«01_k».proof.Proof.Result
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference ends, leaves its arguments and ends with every semaphore at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments, real where the precondition asks for it, the idealized kernel and the reference leave equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => Cert.KernelIdeal.Gen.W5 m g c (Proc.devRef .tc Cert.KernelIdeal.main_v157), KernelRun.run m g, ?_⟩
  refine (θ_run Cert.ReferenceIdeal.defs _ _).mono (fun r h c => ⟨?_, (h c).2⟩) (Cert.ReferenceIdeal.Value.run (F := Ideal) m' g')
  obtain ⟨a0, a1, a2, a3, a4, a5, a6, a7⟩ := hargs c
  refine (h c).1.trans ((Cert.ReferenceIdeal.Read.val_main_v137_eq (F := Ideal) _).trans ?_)
  refine Eq.trans ?_ (Result.value m g c (hpre c)).symm
  show Cert.ReferenceIdeal.Read.val_main_v137 (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7)) = _
  rw [a0, a1, a2, a3, a4, a5, a6, a7]

/-- All the claims of the certificate together. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
